-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))).1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))).2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))).2.2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))).2.2.2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))).2.2.2.2.1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))).2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))).1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))).2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))).2.2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))).2.2.2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))).2.2.2.2.1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))).2.2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_ExpertsRefIdeal [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.1 = (fun _ => 1#1)
    ∧ (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.2 = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
      ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
      ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5)
      ∧ r.2.mem ((c.tc : Thread Cert.SharedRefIdeal.nD Cert.SharedRefIdeal.τ).loc Cert.SharedRefIdeal.main_arg6) = m ((c.tc : Thread Cert.SharedRefIdeal.nD Cert.SharedRefIdeal.τ).loc Cert.SharedRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)) →
    ∃ (v0 : (c : Dev Cert.MlaIdeal.nD) → Buf (Elt Ideal) ((c.tc : Thread Cert.MlaIdeal.nD Cert.MlaIdeal.τ).loc Cert.MlaIdeal.main_v65)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v65) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v107) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v10)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v30) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)
      ∧ m' ((c.tc : Thread Cert.SharedRefIdeal.nD Cert.SharedRefIdeal.τ).loc Cert.SharedRefIdeal.main_arg4) = m ((c.tc : Thread Cert.SharedIdeal.nD Cert.SharedIdeal.τ).loc Cert.SharedIdeal.main_arg4)
      ∧ m' ((c.tc : Thread Cert.SharedRefIdeal.nD Cert.SharedRefIdeal.τ).loc Cert.SharedRefIdeal.main_arg5) = m ((c.tc : Thread Cert.SharedIdeal.nD Cert.SharedIdeal.τ).loc Cert.SharedIdeal.main_arg5)
      ∧ m' ((c.tc : Thread Cert.SharedRefIdeal.nD Cert.SharedRefIdeal.τ).loc Cert.SharedRefIdeal.main_arg6) = m ((c.tc : Thread Cert.SharedIdeal.nD Cert.SharedIdeal.τ).loc Cert.SharedIdeal.main_arg6)) →
    ∃ (v0 : (c : Dev Cert.SharedIdeal.nD) → Buf (Elt Ideal) ((c.tc : Thread Cert.SharedIdeal.nD Cert.SharedIdeal.τ).loc Cert.SharedIdeal.main_v5)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v5) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v32) = v0 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3)
          ∧ r.2.mem ((c.tc : Thread Cert.SharedRefIdeal.nD Cert.SharedRefIdeal.τ).loc Cert.SharedRefIdeal.main_arg4) = m' ((c.tc : Thread Cert.SharedRefIdeal.nD Cert.SharedRefIdeal.τ).loc Cert.SharedRefIdeal.main_arg4)
          ∧ r.2.mem ((c.tc : Thread Cert.SharedRefIdeal.nD Cert.SharedRefIdeal.τ).loc Cert.SharedRefIdeal.main_arg5) = m' ((c.tc : Thread Cert.SharedRefIdeal.nD Cert.SharedRefIdeal.τ).loc Cert.SharedRefIdeal.main_arg5)
          ∧ r.2.mem ((c.tc : Thread Cert.SharedRefIdeal.nD Cert.SharedRefIdeal.τ).loc Cert.SharedRefIdeal.main_arg6) = m' ((c.tc : Thread Cert.SharedRefIdeal.nD Cert.SharedRefIdeal.τ).loc Cert.SharedRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v15)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Experts_ExpertsIdeal : Prop :=
  IdealRules.bf16_pair.Statement Cert.ExpertsIdeal.S2048x512 Cert.ExpertsIdeal.S1024x512
  ∧ IdealRules.bf16_pack.Statement Cert.ExpertsIdeal.S1024x512

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v35) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hMla : Cert.Mla.Facts) (hMlaIdeal : Cert.MlaIdeal.Facts) (hMlaRefIdeal : Cert.MlaRefIdeal.Facts) (hOutProj : Cert.OutProj.Facts) (hOutProjIdeal : Cert.OutProjIdeal.Facts) (hOutProjRefIdeal : Cert.OutProjRefIdeal.Facts) (hShared : Cert.Shared.Facts) (hSharedIdeal : Cert.SharedIdeal.Facts) (hSharedRefIdeal : Cert.SharedRefIdeal.Facts) (hInProj : Cert.InProj.Facts) (hInProjIdeal : Cert.InProjIdeal.Facts) (hInProjRefIdeal : Cert.InProjRefIdeal.Facts) (hExperts : Cert.Experts.Facts) (hExpertsIdeal : Cert.ExpertsIdeal.Facts) (hExpertsRefIdeal : Cert.ExpertsRefIdeal.Facts) (hPre_finite : Cert.Pre_finite.Facts) (hPre_tables : Cert.Pre_tables.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Shared (hShared := hShared)
    ∧ quiescent_SharedIdeal (hSharedIdeal := hSharedIdeal)
    ∧ quiescent_SharedRefIdeal (hSharedRefIdeal := hSharedRefIdeal)
    ∧ quiescent_InProj (hInProj := hInProj)
    ∧ quiescent_InProjIdeal (hInProjIdeal := hInProjIdeal)
    ∧ quiescent_InProjRefIdeal (hInProjRefIdeal := hInProjRefIdeal)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal) (hPre_tables := hPre_tables)
    ∧ preserves_Mla_MlaIdeal
    ∧ algebraic_MlaIdeal_MlaRefIdeal_pre_finite (hMlaIdeal := hMlaIdeal) (hMlaRefIdeal := hMlaRefIdeal) (hPre_finite := hPre_finite)
    ∧ preserves_OutProj_OutProjIdeal
    ∧ algebraic_OutProjIdeal_OutProjRefIdeal (hOutProjIdeal := hOutProjIdeal) (hOutProjRefIdeal := hOutProjRefIdeal)
    ∧ preserves_Shared_SharedIdeal
    ∧ algebraic_SharedIdeal_SharedRefIdeal (hSharedIdeal := hSharedIdeal) (hSharedRefIdeal := hSharedRefIdeal)
    ∧ preserves_InProj_InProjIdeal
    ∧ algebraic_InProjIdeal_InProjRefIdeal (hInProjIdeal := hInProjIdeal) (hInProjRefIdeal := hInProjRefIdeal)
    ∧ preserves_Experts_ExpertsIdeal
    ∧ algebraic_ExpertsIdeal_ExpertsRefIdeal (hExpertsIdeal := hExpertsIdeal) (hExpertsRefIdeal := hExpertsRefIdeal) (hPre_tables := hPre_tables)
-- ==== Pre_finite.lean ====
abbrev S16x2048x1024 : Shape := ⟨3, ![16, 2048, 1024]⟩
abbrev S16x2048 : Shape := ⟨2, ![16, 2048]⟩
abbrev S1024x2920 : Shape := ⟨2, ![1024, 2920]⟩
abbrev S256 : Shape := ⟨1, ![256]⟩
abbrev S256x576 : Shape := ⟨2, ![256, 576]⟩
abbrev S128 : Shape := ⟨1, ![128]⟩
abbrev S128x768 : Shape := ⟨2, ![128, 768]⟩
abbrev S_ : Shape := ⟨0, ![]⟩

class Facts : Prop where
  bcast_S_S16x2048x1024 : S_.BroadcastsInDim S16x2048x1024 (![] : Fin 0 → Fin S16x2048x1024.rank)
  bcast_S_S1024x2920 : S_.BroadcastsInDim S1024x2920 (![] : Fin 0 → Fin S1024x2920.rank)
  bcast_S_S256 : S_.BroadcastsInDim S256 (![] : Fin 0 → Fin S256.rank)
  bcast_S_S256x576 : S_.BroadcastsInDim S256x576 (![] : Fin 0 → Fin S256x576.rank)
  bcast_S_S128 : S_.BroadcastsInDim S128 (![] : Fin 0 → Fin S128.rank)
  bcast_S_S128x768 : S_.BroadcastsInDim S128x768 (![] : Fin 0 → Fin S128x768.rank)

variable [Facts]

def fn {F : FTy → Type} [FloatOps F] (main_arg0 : FVec F S16x2048x1024 .f32) (main_arg1 : IVec S16x2048 32) (main_arg2 : FVec F S1024x2920 .f32) (main_arg3 : FVec F S256 .f32) (main_arg4 : FVec F S256x576 .f32) (main_arg5 : FVec F S128 .f32) (main_arg6 : FVec F S128x768 .f32) : IVec S16x2048x1024 1 × IVec S1024x2920 1 × IVec S256 1 × IVec S256x576 1 × IVec S128 1 × IVec S128x768 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S1024x2920 .f32 := Host.absf main_arg2
  let main_cst_0 : FVec F S_ .f32 := constant S_ .f32 0x7F800000#32
  let main_v4 : FVec F S1024x2920 .f32 := broadcastInDim S1024x2920 ![] bcast_S_S1024x2920 main_cst_0
  let main_v5 : IVec S1024x2920 1 := cmpf .olt main_v3 main_v4
  let main_v6 : FVec F S256 .f32 := Host.absf main_arg3
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x576 .f32 := Host.absf main_arg4
  let main_cst_2 : FVec F S_ .f32 := constant S_ .f32 0x7F800000#32
  let main_v10 : FVec F S256x576 .f32 := broadcastInDim S256x576 ![] bcast_S_S256x576 main_cst_2
  let main_v11 : IVec S256x576 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x768 .f32 := Host.absf main_arg6
  let main_cst_4 : FVec F S_ .f32 := constant S_ .f32 0x7F800000#32
  let main_v16 : FVec F S128x768 .f32 := broadcastInDim S128x768 ![] bcast_S_S128x768 main_cst_4
  let main_v17 : IVec S128x768 1 := cmpf .olt main_v15 main_v16
  (main_v2, main_v5, main_v8, main_v11, main_v14, main_v17)
-- ==== Pre_tables.lean ====
abbrev S770048x512 : Shape := ⟨2, ![770048, 512]⟩
abbrev S376 : Shape := ⟨1, ![376]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩

class Facts : Prop where
  bcast_S_S376 : S_.BroadcastsInDim S376 (![] : Fin 0 → Fin S376.rank)
  bcast_S_S1 : S_.BroadcastsInDim S1 (![] : Fin 0 → Fin S1.rank)

variable [Facts]

def fn {F : FTy → Type} [FloatOps F] (main_arg0 : FVec F S770048x512 .bf16) (main_arg1 : IVec S376 32) (main_arg2 : IVec S1 32) (main_arg3 : FVec F S64x1024x256 .f32) (main_arg4 : FVec F S64x1024x256 .f32) (main_arg5 : FVec F S64x256x1024 .f32) : IVec S376 1 × IVec S376 1 × IVec S1 1 :=
  let main_c : IVec S_ 32 := constantI S_ 32 0#32
  let main_v0 : IVec S376 32 := broadcastInDim S376 ![] bcast_S_S376 main_c
  let main_v1 : IVec S376 1 := cmpi .sge main_arg1 main_v0
  let main_c_0 : IVec S_ 32 := constantI S_ 32 64#32
  let main_v2 : IVec S376 32 := broadcastInDim S376 ![] bcast_S_S376 main_c_0
  let main_v3 : IVec S376 1 := cmpi .slt main_arg1 main_v2
  let main_c_1 : IVec S_ 32 := constantI S_ 32 1#32
  let main_v4 : IVec S1 32 := broadcastInDim S1 ![] bcast_S_S1 main_c_1
  let main_v5 : IVec S1 1 := cmpi .sge main_arg2 main_v4
  (main_v1, main_v3, main_v5)
-- ==== Mla.lean ====
abbrev S16x2048x1024 : Shape := ⟨3, ![16, 2048, 1024]⟩
abbrev S16x2048 : Shape := ⟨2, ![16, 2048]⟩
abbrev S1024x2920 : Shape := ⟨2, ![1024, 2920]⟩
abbrev S256 : Shape := ⟨1, ![256]⟩
abbrev S256x576 : Shape := ⟨2, ![256, 576]⟩
abbrev S128 : Shape := ⟨1, ![128]⟩
abbrev S128x768 : Shape := ⟨2, ![128, 768]⟩
abbrev S_ : Shape := ⟨0, ![]⟩
abbrev S1x2304 : Shape := ⟨2, ![1, 2304]⟩
abbrev S1x1x2304 : Shape := ⟨3, ![1, 1, 2304]⟩
abbrev S1x256x2048 : Shape := ⟨3, ![1, 256, 2048]⟩
abbrev S256x2048 : Shape := ⟨2, ![256, 2048]⟩
abbrev S1x2048 : Shape := ⟨2, ![1, 2048]⟩
abbrev S16 : Shape := ⟨1, ![16]⟩
abbrev S32768x1 : Shape := ⟨2, ![32768, 1]⟩
abbrev S1x16 : Shape := ⟨2, ![1, 16]⟩
abbrev S32768x16 : Shape := ⟨2, ![32768, 16]⟩
abbrev S32768x64 : Shape := ⟨2, ![32768, 64]⟩
abbrev S32768x32 : Shape := ⟨2, ![32768, 32]⟩
abbrev S32768x128 : Shape := ⟨2, ![32768, 128]⟩
abbrev S32768x80 : Shape := ⟨2, ![32768, 80]⟩
abbrev S32768x48 : Shape := ⟨2, ![32768, 48]⟩
abbrev S32768x1024 : Shape := ⟨2, ![32768, 1024]⟩
abbrev S1024x64 : Shape := ⟨2, ![1024, 64]⟩
abbrev S1024x512 : Shape := ⟨2, ![1024, 512]⟩
abbrev S1024x768 : Shape := ⟨2, ![1024, 768]⟩
abbrev S1024x1152 : Shape := ⟨2, ![1024, 1152]⟩
abbrev S1024x2560 : Shape := ⟨2, ![1024, 2560]⟩
abbrev S1024x8 : Shape := ⟨2, ![1024, 8]⟩
abbrev S1024x56 : Shape := ⟨2, ![1024, 56]⟩
abbrev S1024x32 : Shape := ⟨2, ![1024, 32]⟩
abbrev S1024x128 : Shape := ⟨2, ![1024, 128]⟩
abbrev S1024x384 : Shape := ⟨2, ![1024, 384]⟩
abbrev S32768x512 : Shape := ⟨2, ![32768, 512]⟩
abbrev S512x1024 : Shape := ⟨2, ![512, 1024]⟩
abbrev S512x512 : Shape := ⟨2, ![512, 512]⟩
abbrev S256x6x96 : Shape := ⟨3, ![256, 6, 96]⟩
abbrev S256x6x128 : Shape := ⟨3, ![256, 6, 128]⟩
abbrev S256x768 : Shape := ⟨2, ![256, 768]⟩
abbrev S128x6x128 : Shape := ⟨3, ![128, 6, 128]⟩
abbrev S128x6x64 : Shape := ⟨3, ![128, 6, 64]⟩
abbrev S128x384 : Shape := ⟨2, ![128, 384]⟩
abbrev S1x256 : Shape := ⟨2, ![1, 256]⟩
abbrev S1x128 : Shape := ⟨2, ![1, 128]⟩
abbrev S32768x768 : Shape := ⟨2, ![32768, 768]⟩
abbrev S32768x384 : Shape := ⟨2, ![32768, 384]⟩
abbrev S512x128 : Shape := ⟨2, ![512, 128]⟩
abbrev S512x768 : Shape := ⟨2, ![512, 768]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S16x2048x768 : Shape := ⟨3, ![16, 2048, 768]⟩
abbrev S16x2048x384 : Shape := ⟨3, ![16, 2048, 384]⟩
abbrev S1x2048x256 : Shape := ⟨3, ![1, 2048, 256]⟩
abbrev S1x2048x128 : Shape := ⟨3, ![1, 2048, 128]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256x1 : Shape := ⟨2, ![256, 1]⟩
abbrev S1x512x128 : Shape := ⟨3, ![1, 512, 128]⟩
abbrev S256x512 : Shape := ⟨2, ![256, 512]⟩
abbrev S1x256x512 : Shape := ⟨3, ![1, 256, 512]⟩
abbrev S1x768x128 : Shape := ⟨3, ![1, 768, 128]⟩
abbrev S768x128 : Shape := ⟨2, ![768, 128]⟩
abbrev S1x256x768 : Shape := ⟨3, ![1, 256, 768]⟩
abbrev S1x1024x128 : Shape := ⟨3, ![1, 1024, 128]⟩
abbrev S256x1024 : Shape := ⟨2, ![256, 1024]⟩
abbrev S1x256x1024 : Shape := ⟨3, ![1, 256, 1024]⟩
abbrev S1x1280x128 : Shape := ⟨3, ![1, 1280, 128]⟩
abbrev S1280x128 : Shape := ⟨2, ![1280, 128]⟩
abbrev S256x1280 : Shape := ⟨2, ![256, 1280]⟩
abbrev S1x256x1280 : Shape := ⟨3, ![1, 256, 1280]⟩
abbrev S1x1536x128 : Shape := ⟨3, ![1, 1536, 128]⟩
abbrev S1536x128 : Shape := ⟨2, ![1536, 128]⟩
abbrev S256x1536 : Shape := ⟨2, ![256, 1536]⟩
abbrev S1x256x1536 : Shape := ⟨3, ![1, 256, 1536]⟩
abbrev S1x1792x128 : Shape := ⟨3, ![1, 1792, 128]⟩
abbrev S1792x128 : Shape := ⟨2, ![1792, 128]⟩
abbrev S256x1792 : Shape := ⟨2, ![256, 1792]⟩
abbrev S1x256x1792 : Shape := ⟨3, ![1, 256, 1792]⟩
abbrev S2048x128 : Shape := ⟨2, ![2048, 128]⟩

abbrev nBuf : Space → Nat
  | .hbm => 92
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1024x2920, .f32⟩
  | .hbm, ⟨3, _⟩ => ⟨S256, .f32⟩
  | .hbm, ⟨4, _⟩ => ⟨S256x576, .f32⟩
  | .hbm, ⟨5, _⟩ => ⟨S128, .f32⟩
  | .hbm, ⟨6, _⟩ => ⟨S128x768, .f32⟩
  | .hbm, ⟨7, _⟩ => ⟨S_, .f32⟩
  | .hbm, ⟨8, _⟩ => ⟨S1x2304, .f32⟩
  | .hbm, ⟨9, _⟩ => ⟨S1x1x2304, .f32⟩
  | .hbm, ⟨10, _⟩ => ⟨S1x256x2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x2048, .f32⟩
  | .hbm, ⟨26, _⟩ => ⟨S32768x1, .f32⟩
  | .hbm, ⟨27, _⟩ => ⟨S1x16, .f32⟩
  | .hbm, ⟨28, _⟩ => ⟨S32768x16, .f32⟩
  | .hbm, ⟨29, _⟩ => ⟨S32768x16, .f32⟩
  | .hbm, ⟨30, _⟩ => ⟨S32768x16, .f32⟩
  | .hbm, ⟨31, _⟩ => ⟨S32768x16, .f32⟩
  | .hbm, ⟨32, _⟩ => ⟨S32768x16, .f32⟩
  | .hbm, ⟨33, _⟩ => ⟨S_, .f32⟩
  | .hbm, ⟨34, _⟩ => ⟨S32768x64, .f32⟩
  | .hbm, ⟨35, _⟩ => ⟨S_, .f32⟩
  | .hbm, ⟨36, _⟩ => ⟨S32768x32, .f32⟩
  | .hbm, ⟨37, _⟩ => ⟨S32768x128, .f32⟩
  | .hbm, ⟨38, _⟩ => ⟨S_, .f32⟩
  | .hbm, ⟨39, _⟩ => ⟨S32768x80, .f32⟩
  | .hbm, ⟨40, _⟩ => ⟨S_, .f32⟩
  | .hbm, ⟨41, _⟩ => ⟨S32768x32, .f32⟩
  | .hbm, ⟨42, _⟩ => ⟨S32768x128, .f32⟩
  | .hbm, ⟨43, _⟩ => ⟨S_, .f32⟩
  | .hbm, ⟨44, _⟩ => ⟨S32768x64, .f32⟩
  | .hbm, ⟨45, _⟩ => ⟨S32768x16, .f32⟩
  | .hbm, ⟨46, _⟩ => ⟨S_, .f32⟩
  | .hbm, ⟨47, _⟩ => ⟨S32768x48, .f32⟩
  | .hbm, ⟨48, _⟩ => ⟨S32768x128, .f32⟩
  | .hbm, ⟨49, _⟩ => ⟨S32768x1024, .f32⟩
  | .hbm, ⟨50, _⟩ => ⟨S1024x64, .f32⟩
  | .hbm, ⟨51, _⟩ => ⟨S1024x512, .f32⟩
  | .hbm, ⟨52, _⟩ => ⟨S1024x768, .f32⟩
  | .hbm, ⟨53, _⟩ => ⟨S1024x1152, .f32⟩
  | .hbm, ⟨54, _⟩ => ⟨S1024x2560, .f32⟩
  | .hbm, ⟨55, _⟩ => ⟨S1024x8, .f32⟩
  | .hbm, ⟨56, _⟩ => ⟨S_, .f32⟩
  | .hbm, ⟨57, _⟩ => ⟨S1024x56, .f32⟩
  | .hbm, ⟨58, _⟩ => ⟨S1024x32, .f32⟩
  | .hbm, ⟨59, _⟩ => ⟨S_, .f32⟩
  | .hbm, ⟨60, _⟩ => ⟨S1024x32, .f32⟩
  | .hbm, ⟨61, _⟩ => ⟨S1024x128, .f32⟩
  | .hbm, ⟨62, _⟩ => ⟨S1024x384, .f32⟩
  | .hbm, ⟨63, _⟩ => ⟨S1024x512, .f32⟩
  | .hbm, ⟨64, _⟩ => ⟨S1024x2560, .bf16⟩
  | .hbm, ⟨65, _⟩ => ⟨S1024x512, .bf16⟩
  | .hbm, ⟨66, _⟩ => ⟨S32768x512, .f32⟩
  | .hbm, ⟨67, _⟩ => ⟨S256x6x96, .f32⟩
  | .hbm, ⟨68, _⟩ => ⟨S_, .i32⟩
  | .hbm, ⟨69, _⟩ => ⟨S_, .f32⟩
  | .hbm, ⟨70, _⟩ => ⟨S256x6x128, .f32⟩
  | .hbm, ⟨71, _⟩ => ⟨S256x768, .f32⟩
  | .hbm, ⟨72, _⟩ => ⟨S128x6x128, .f32⟩
  | .hbm, ⟨73, _⟩ => ⟨S128x6x64, .f32⟩
  | .hbm, ⟨74, _⟩ => ⟨S_, .i32⟩
  | .hbm, ⟨75, _⟩ => ⟨S_, .f32⟩
  | .hbm, ⟨76, _⟩ => ⟨S128x6x128, .f32⟩
  | .hbm, ⟨77, _⟩ => ⟨S128x768, .f32⟩
  | .hbm, ⟨78, _⟩ => ⟨S128x6x64, .f32⟩
  | .hbm, ⟨79, _⟩ => ⟨S128x384, .f32⟩
  | .hbm, ⟨80, _⟩ => ⟨S256x768, .bf16⟩
  | .hbm, ⟨81, _⟩ => ⟨S128x768, .bf16⟩
  | .hbm, ⟨82, _⟩ => ⟨S128x384, .bf16⟩
  | .hbm, ⟨83, _⟩ => ⟨S1x256, .f32⟩
  | .hbm, ⟨84, _⟩ => ⟨S1x128, .f32⟩
  | .hbm, ⟨85, _⟩ => ⟨S32768x768, .bf16⟩
  | .hbm, ⟨86, _⟩ => ⟨S32768x768, .bf16⟩
  | .hbm, ⟨87, _⟩ => ⟨S32768x384, .bf16⟩
  | .hbm, ⟨88, _⟩ => ⟨S16x2048x768, .bf16⟩
  | .hbm, ⟨89, _⟩ => ⟨S16x2048x768, .bf16⟩
  | .hbm, ⟨90, _⟩ => ⟨S16x2048x384, .bf16⟩
  | .hbm, ⟨91, _⟩ => ⟨S16x2048x384, .bf16⟩
  | .local _ .vmem, ⟨0, _⟩ => ⟨S1x1x2304, .f32⟩
  | .local _ .vmem, ⟨1, _⟩ => ⟨S1x256x2048, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x256, .f32⟩
  | .local _ .vmem, ⟨10, _⟩ => ⟨S1x128, .f32⟩
  | .local _ .vmem, ⟨11, _⟩ => ⟨S256x768, .bf16⟩
  | .local _ .vmem, ⟨12, _⟩ => ⟨S128x768, .bf16⟩
  | .local _ .vmem, ⟨13, _⟩ => ⟨S128x384, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x768, .bf16⟩
  | .local _ .vmem, ⟨21, _⟩ => ⟨S512x768, .bf16⟩
  | .local _ .vmem, ⟨22, _⟩ => ⟨S512x768, .bf16⟩
  | .local _ .vmem, ⟨23, _⟩ => ⟨S512x768, .bf16⟩
  | .local _ .vmem, ⟨24, _⟩ => ⟨S512x384, .bf16⟩
  | .local _ .vmem, ⟨25, _⟩ => ⟨S512x384, .bf16⟩
  | .local _ .vmem, ⟨26, _⟩ => ⟨S1x2048x256, .bf16⟩
  | .local _ .vmem, ⟨27, _⟩ => ⟨S1x2048x256, .bf16⟩
  | .local _ .vmem, ⟨28, _⟩ => ⟨S1x2048x256, .bf16⟩
  | .local _ .vmem, ⟨29, _⟩ => ⟨S1x2048x256, .bf16⟩
  | .local _ .vmem, ⟨30, _⟩ => ⟨S1x2048x128, .bf16⟩
  | .local _ .vmem, ⟨31, _⟩ => ⟨S1x2048x128, .bf16⟩
  | .local _ .vmem, ⟨32, _⟩ => ⟨S1x256x2048, .f32⟩
  | .local _ .vmem, ⟨33, _⟩ => ⟨S1x2048x128, .bf16⟩
  | .local _ .vmem, ⟨34, _⟩ => ⟨S1x2048x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev main_v61_2 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg6_1 : Ref sig .tc := ⟨.vmem, 15, rfl⟩
abbrev cc2_stg7_0 : Ref sig .tc := ⟨.vmem, 16, rfl⟩
abbrev cc2_stg7_1 : Ref sig .tc := ⟨.vmem, 17, rfl⟩
abbrev cc2_stg8_0 : Ref sig .tc := ⟨.vmem, 18, rfl⟩
abbrev cc2_stg8_1 : Ref sig .tc := ⟨.vmem, 19, rfl⟩
abbrev cc2_stg9_0 : Ref sig .tc := ⟨.vmem, 20, rfl⟩
abbrev cc2_stg9_1 : Ref sig .tc := ⟨.vmem, 21, rfl⟩
abbrev cc2_stg10_0 : Ref sig .tc := ⟨.vmem, 22, rfl⟩
abbrev cc2_stg10_1 : Ref sig .tc := ⟨.vmem, 23, rfl⟩
abbrev cc2_stg11_0 : Ref sig .tc := ⟨.vmem, 24, rfl⟩
abbrev cc2_stg11_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem6_1 : DmaSem sig := 15
abbrev cc2_sem7_0 : DmaSem sig := 16
abbrev cc2_sem7_1 : DmaSem sig := 17
abbrev cc2_sem8_0 : DmaSem sig := 18
abbrev cc2_sem8_1 : DmaSem sig := 19
abbrev cc2_sem9_0 : DmaSem sig := 20
abbrev cc2_sem9_1 : DmaSem sig := 21
abbrev cc2_sem10_0 : DmaSem sig := 22
abbrev cc2_sem10_1 : DmaSem sig := 23
abbrev cc2_sem11_0 : DmaSem sig := 24
abbrev cc2_sem11_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x768 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x768 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x384 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x768 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x768 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x384 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨2, ![3, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage3_0 : Fin 2 → Memref sig .tc .vmem S1x2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x256x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x2048x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== MlaIdeal.lean ====
variable {F : FTy → Type} [FloatOps F] [Named F]
def κ : String → Option EReal := fun
  | "mask" => some ⊥
  | _ => none
-- ==== MlaRefIdeal.lean ====
abbrev S16x2048x1024 : Shape := ⟨3, ![16, 2048, 1024]⟩
abbrev S16x2048 : Shape := ⟨2, ![16, 2048]⟩
abbrev S1024x2920 : Shape := ⟨2, ![1024, 2920]⟩
abbrev S256 : Shape := ⟨1, ![256]⟩
abbrev S256x576 : Shape := ⟨2, ![256, 576]⟩
abbrev S128 : Shape := ⟨1, ![128]⟩
abbrev S128x768 : Shape := ⟨2, ![128, 768]⟩
abbrev S16x2048x2920 : Shape := ⟨3, ![16, 2048, 2920]⟩
abbrev S16x2048x256 : Shape := ⟨3, ![16, 2048, 256]⟩
abbrev S16x2048x128 : Shape := ⟨3, ![16, 2048, 128]⟩
abbrev S16x2048x32 : Shape := ⟨3, ![16, 2048, 32]⟩
abbrev S_ : Shape := ⟨0, ![]⟩
abbrev S16x2048x1 : Shape := ⟨3, ![16, 2048, 1]⟩
abbrev S1x1x256 : Shape := ⟨3, ![1, 1, 256]⟩
abbrev S16x2048x576 : Shape := ⟨3, ![16, 2048, 576]⟩
abbrev S16x2048x6x96 : Shape := ⟨4, ![16, 2048, 6, 96]⟩
abbrev S1x1x128 : Shape := ⟨3, ![1, 1, 128]⟩
abbrev S16x2048x768 : Shape := ⟨3, ![16, 2048, 768]⟩
abbrev S16x2048x6x128 : Shape := ⟨4, ![16, 2048, 6, 128]⟩
abbrev S16 : Shape := ⟨1, ![16]⟩
abbrev S1x1x16 : Shape := ⟨3, ![1, 1, 16]⟩
abbrev S16x2048x16 : Shape := ⟨3, ![16, 2048, 16]⟩
abbrev S16x2048x6x64 : Shape := ⟨4, ![16, 2048, 6, 64]⟩
abbrev S16x2048x6x32 : Shape := ⟨4, ![16, 2048, 6, 32]⟩
abbrev S16x2048x1x16 : Shape := ⟨4, ![16, 2048, 1, 16]⟩
abbrev S16x2048x6x16 : Shape := ⟨4, ![16, 2048, 6, 16]⟩
abbrev S2048 : Shape := ⟨1, ![2048]⟩
abbrev S16x6x2048x2048 : Shape := ⟨4, ![16, 6, 2048, 2048]⟩
abbrev S16x2048x2048x6 : Shape := ⟨4, ![16, 2048, 2048, 6]⟩
abbrev S1x2048 : Shape := ⟨2, ![1, 2048]⟩
abbrev S2048x1 : Shape := ⟨2, ![2048, 1]⟩
abbrev S2048x2048 : Shape := ⟨2, ![2048, 2048]⟩
abbrev S16x6x2048 : Shape := ⟨3, ![16, 6, 2048]⟩
abbrev S16x6x2048x1 : Shape := ⟨4, ![16, 6, 2048, 1]⟩
abbrev S16x6x64x2048 : Shape := ⟨4, ![16, 6, 64, 2048]⟩
abbrev S16x2048x384 : Shape := ⟨3, ![16, 2048, 384]⟩

abbrev nBuf : Space → Nat
  | .hbm => 133
  | .vmem => 0
  | .smem => 0
  | _ => 0

abbrev hbmTy0_0 (i : Nat) : BufTy := match i % 128 with
  | 0 => ⟨S16x2048x1024, .f32⟩
  | 1 => ⟨S16x2048, .i32⟩
  | 2 => ⟨S1024x2920, .f32⟩
  | 3 => ⟨S256, .f32⟩
  | 4 => ⟨S256x576, .f32⟩
  | 5 => ⟨S128, .f32⟩
  | 6 => ⟨S128x768, .f32⟩
  | 7 => ⟨S16x2048x2920, .f32⟩
  | 8 => ⟨S16x2048x256, .f32⟩
  | 9 => ⟨S16x2048x128, .f32⟩
  | 10 => ⟨S16x2048x32, .f32⟩
  | 11 => ⟨S16x2048x256, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x256, .f32⟩
  | 23 => ⟨S16x2048x256, .f32⟩
  | 24 => ⟨S1x1x256, .f32⟩
  | 25 => ⟨S16x2048x256, .f32⟩
  | 26 => ⟨S16x2048x256, .f32⟩
  | 27 => ⟨S16x2048x576, .f32⟩
  | 28 => ⟨S16x2048x6x96, .f32⟩
  | 29 => ⟨S16x2048x128, .f32⟩
  | 30 => ⟨S_, .f32⟩
  | 31 => ⟨S16x2048, .f32⟩
  | 32 => ⟨S16x2048x1, .f32⟩
  | 33 => ⟨S_, .f32⟩
  | 34 => ⟨S16x2048x1, .f32⟩
  | 35 => ⟨S16x2048x1, .f32⟩
  | 36 => ⟨S_, .f32⟩
  | 37 => ⟨S16x2048x1, .f32⟩
  | 38 => ⟨S16x2048x1, .f32⟩
  | 39 => ⟨S16x2048x1, .f32⟩
  | 40 => ⟨S16x2048x128, .f32⟩
  | 41 => ⟨S16x2048x128, .f32⟩
  | 42 => ⟨S1x1x128, .f32⟩
  | 43 => ⟨S16x2048x128, .f32⟩
  | 44 => ⟨S16x2048x128, .f32⟩
  | 45 => ⟨S16x2048x768, .f32⟩
  | 46 => ⟨S16x2048x6x128, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S16x2048, .f32⟩
  | 62 => ⟨S16x2048x1, .f32⟩
  | 63 => ⟨S1x1x16, .f32⟩
  | 64 => ⟨S16x2048x16, .f32⟩
  | 65 => ⟨S16x2048x16, .f32⟩
  | 66 => ⟨S16x2048x16, .f32⟩
  | 67 => ⟨S16x2048x16, .f32⟩
  | 68 => ⟨S16x2048x16, .f32⟩
  | 69 => ⟨S16x2048x6x64, .f32⟩
  | 70 => ⟨S16x2048x6x32, .f32⟩
  | 71 => ⟨S16x2048x1x16, .f32⟩
  | 72 => ⟨S16x2048x1x16, .f32⟩
  | 73 => ⟨S16x2048x6x16, .f32⟩
  | 74 => ⟨S16x2048x6x16, .f32⟩
  | 75 => ⟨S16x2048x6x16, .f32⟩
  | 76 => ⟨S16x2048x6x16, .f32⟩
  | 77 => ⟨S16x2048x6x16, .f32⟩
  | 78 => ⟨S16x2048x6x16, .f32⟩
  | 79 => ⟨S16x2048x6x16, .f32⟩
  | 80 => ⟨S16x2048x6x16, .f32⟩
  | 81 => ⟨S16x2048x6x16, .f32⟩
  | 82 => ⟨S16x2048x6x16, .f32⟩
  | 83 => ⟨S16x2048x6x16, .f32⟩
  | 84 => ⟨S16x2048x6x16, .f32⟩
  | 85 => ⟨S16x2048x6x32, .f32⟩
  | 86 => ⟨S16x2048x6x64, .f32⟩
  | 87 => ⟨S16x2048x6x64, .f32⟩
  | 88 => ⟨S16x2048x16, .f32⟩
  | 89 => ⟨S16x2048x16, .f32⟩
  | 90 => ⟨S16x2048x16, .f32⟩
  | 91 => ⟨S16x2048x16, .f32⟩
  | 92 => ⟨S16x2048x16, .f32⟩
  | 93 => ⟨S16x2048x16, .f32⟩
  | 94 => ⟨S16x2048x16, .f32⟩
  | 95 => ⟨S16x2048x16, .f32⟩
  | 96 => ⟨S16x2048x32, .f32⟩
  | 97 => ⟨S2048, .i32⟩
  | 98 => ⟨S16x6x2048x2048, .f32⟩
  | 99 => ⟨S16x2048x2048x6, .f32⟩
  | 100 => ⟨S16x6x2048x2048, .f32⟩
  | 101 => ⟨S16x6x2048x2048, .f32⟩
  | 102 => ⟨S_, .f32⟩
  | 103 => ⟨S16x6x2048x2048, .f32⟩
  | 104 => ⟨S16x6x2048x2048, .f32⟩
  | 105 => ⟨S1x2048, .i32⟩
  | 106 => ⟨S2048x1, .i32⟩
  | 107 => ⟨S2048x2048, .i32⟩
  | 108 => ⟨S2048x2048, .i32⟩
  | 109 => ⟨S2048x2048, .i1⟩
  | 110 => ⟨S_, .f32⟩
  | 111 => ⟨S_, .f32⟩
  | 112 => ⟨S16x6x2048x2048, .i1⟩
  | 113 => ⟨S16x6x2048x2048, .f32⟩
  | 114 => ⟨S16x6x2048x2048, .f32⟩
  | 115 => ⟨S_, .f32⟩
  | 116 => ⟨S16x6x2048, .f32⟩
  | 117 => ⟨S_, .f32⟩
  | 118 => ⟨S16x6x2048, .f32⟩
  | 119 => ⟨S16x6x2048, .f32⟩
  | 120 => ⟨S16x6x2048x1, .f32⟩
  | 121 => ⟨S16x6x2048x2048, .f32⟩
  | 122 => ⟨S16x6x2048x2048, .f32⟩
  | 123 => ⟨S16x6x2048x2048, .f32⟩
  | 124 => ⟨S_, .f32⟩
  | 125 => ⟨S16x6x2048, .f32⟩
  | 126 => ⟨S16x6x2048x1, .f32⟩
  | 127 => ⟨S16x6x2048x2048, .f32⟩
  | _ => ⟨S16x2048x1024, .f32⟩

abbrev hbmTy0_1 (i : Nat) : BufTy := match i % 128 with
  | 0 => ⟨S16x6x2048x2048, .f32⟩
  | 1 => ⟨S16x6x64x2048, .f32⟩
  | 2 => ⟨S16x2048x6x64, .f32⟩
  | 3 => ⟨S16x2048x384, .f32⟩
  | 4 => ⟨S16x2048x384, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_9 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_cst_12 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_13 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩

abbrev nD : Nat := 1
abbrev τ : Topo := Topo.v7x

variable {F : FTy → Type} [FloatOps F]
-- ==== OutProj.lean ====
abbrev S16x2048x384 : Shape := ⟨3, ![16, 2048, 384]⟩
abbrev S16x2048x256 : Shape := ⟨3, ![16, 2048, 256]⟩
abbrev S1024x1024 : Shape := ⟨2, ![1024, 1024]⟩
abbrev S16x2048x1024 : Shape := ⟨3, ![16, 2048, 1024]⟩
abbrev S1024 : Shape := ⟨1, ![1024]⟩
abbrev S32768x384 : Shape := ⟨2, ![32768, 384]⟩
abbrev S32768x256 : Shape := ⟨2, ![32768, 256]⟩
abbrev S384x1024 : Shape := ⟨2, ![384, 1024]⟩
abbrev S256x1024 : Shape := ⟨2, ![256, 1024]⟩
abbrev S32768x1024 : Shape := ⟨2, ![32768, 1024]⟩
abbrev S1x1024 : Shape := ⟨2, ![1, 1024]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S16x2048x384, .bf16⟩
  | .hbm, ⟨1, _⟩ => ⟨S16x2048x256, .bf16⟩
  | .hbm, ⟨2, _⟩ => ⟨S16x2048x384, .bf16⟩
  | .hbm, ⟨3, _⟩ => ⟨S1024x1024, .f32⟩
  | .hbm, ⟨4, _⟩ => ⟨S16x2048x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S32768x384, .bf16⟩
  | .hbm, ⟨9, _⟩ => ⟨S32768x256, .bf16⟩
  | .hbm, ⟨10, _⟩ => ⟨S32768x384, .bf16⟩
  | .hbm, ⟨11, _⟩ => ⟨S384x1024, .bf16⟩
  | .hbm, ⟨12, _⟩ => ⟨S256x1024, .bf16⟩
  | .hbm, ⟨13, _⟩ => ⟨S384x1024, .bf16⟩
  | .hbm, ⟨14, _⟩ => ⟨S32768x1024, .f32⟩
  | .hbm, ⟨15, _⟩ => ⟨S1x1024, .f32⟩
  | .hbm, ⟨16, _⟩ => ⟨S1x1024, .f32⟩
  | .hbm, ⟨17, _⟩ => ⟨S32768x1024, .f32⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S384x1024, .bf16⟩
  | .local _ .vmem, ⟨7, _⟩ => ⟨S256x1024, .bf16⟩
  | .local _ .vmem, ⟨8, _⟩ => ⟨S384x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16x2048x384 : Shape := ⟨3, ![16, 2048, 384]⟩
abbrev S16x2048x256 : Shape := ⟨3, ![16, 2048, 256]⟩
abbrev S1024x1024 : Shape := ⟨2, ![1024, 1024]⟩
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x384, .bf16⟩
  | .hbm, ⟨1, _⟩ => ⟨S16x2048x256, .bf16⟩
  | .hbm, ⟨2, _⟩ => ⟨S16x2048x384, .bf16⟩
  | .hbm, ⟨3, _⟩ => ⟨S1024x1024, .f32⟩
  | .hbm, ⟨4, _⟩ => ⟨S16x2048x1024, .f32⟩
  | .hbm, ⟨5, _⟩ => ⟨S1024, .f32⟩
  | .hbm, ⟨6, _⟩ => ⟨S1024, .f32⟩
  | .hbm, ⟨7, _⟩ => ⟨S16x2048x1024, .bf16⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S32768x1024, .f32⟩
  | _, _ => ⟨S16x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Shared.lean ====
abbrev S32768x1024 : Shape := ⟨2, ![32768, 1024]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SharedRefIdeal.lean ====
abbrev S32768x1024 : Shape := ⟨2, ![32768, 1024]⟩
abbrev S1024x256 : Shape := ⟨2, ![1024, 256]⟩
abbrev S256x1024 : Shape := ⟨2, ![256, 1024]⟩
abbrev S1024 : Shape := ⟨1, ![1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S_, .f32⟩
  | .hbm, ⟨11, _⟩ => ⟨S32768x256, .f32⟩
  | .hbm, ⟨12, _⟩ => ⟨S32768x256, .f32⟩
  | .hbm, ⟨13, _⟩ => ⟨S_, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== InProj.lean ====
abbrev S16x2048x1024 : Shape := ⟨3, ![16, 2048, 1024]⟩
abbrev S1024x2920 : Shape := ⟨2, ![1024, 2920]⟩
abbrev S32768x1024 : Shape := ⟨2, ![32768, 1024]⟩
abbrev S1024x64 : Shape := ⟨2, ![1024, 64]⟩
abbrev S1024x512 : Shape := ⟨2, ![1024, 512]⟩
abbrev S1024x768 : Shape := ⟨2, ![1024, 768]⟩
abbrev S1024x1152 : Shape := ⟨2, ![1024, 1152]⟩
abbrev S1024x2560 : Shape := ⟨2, ![1024, 2560]⟩
abbrev S1024x8 : Shape := ⟨2, ![1024, 8]⟩
abbrev S_ : Shape := ⟨0, ![]⟩
abbrev S1024x56 : Shape := ⟨2, ![1024, 56]⟩
abbrev S1024x32 : Shape := ⟨2, ![1024, 32]⟩
abbrev S1024x128 : Shape := ⟨2, ![1024, 128]⟩
abbrev S1024x384 : Shape := ⟨2, ![1024, 384]⟩
abbrev S32768x2560 : Shape := ⟨2, ![32768, 2560]⟩
abbrev S512x1024 : Shape := ⟨2, ![512, 1024]⟩
abbrev S512x2560 : Shape := ⟨2, ![512, 2560]⟩

abbrev nBuf : Space → Nat
  | .hbm => 20
  | .vmem => 5
  | .smem => 0
  | _ => 0

abbrev bufTy : (tb : Table) → Fin (tcTables nBuf tb) → BufTy
  | .hbm, ⟨0, _⟩ => ⟨S16x2048x1024, .f32⟩
  | .hbm, ⟨1, _⟩ => ⟨S1024x2920, .f32⟩
  | .hbm, ⟨2, _⟩ => ⟨S32768x1024, .f32⟩
  | .hbm, ⟨3, _⟩ => ⟨S1024x64, .f32⟩
  | .hbm, ⟨4, _⟩ => ⟨S1024x512, .f32⟩
  | .hbm, ⟨5, _⟩ => ⟨S1024x768, .f32⟩
  | .hbm, ⟨6, _⟩ => ⟨S1024x1152, .f32⟩
  | .hbm, ⟨7, _⟩ => ⟨S1024x2560, .f32⟩
  | .hbm, ⟨8, _⟩ => ⟨S1024x8, .f32⟩
  | .hbm, ⟨9, _⟩ => ⟨S_, .f32⟩
  | .hbm, ⟨10, _⟩ => ⟨S1024x56, .f32⟩
  | .hbm, ⟨11, _⟩ => ⟨S1024x32, .f32⟩
  | .hbm, ⟨12, _⟩ => ⟨S_, .f32⟩
  | .hbm, ⟨13, _⟩ => ⟨S1024x32, .f32⟩
  | .hbm, ⟨14, _⟩ => ⟨S1024x128, .f32⟩
  | .hbm, ⟨15, _⟩ => ⟨S1024x384, .f32⟩
  | .hbm, ⟨16, _⟩ => ⟨S1024x512, .f32⟩
  | .hbm, ⟨17, _⟩ => ⟨S1024x2560, .bf16⟩
  | .hbm, ⟨18, _⟩ => ⟨S1024x512, .bf16⟩
  | .hbm, ⟨19, _⟩ => ⟨S32768x2560, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x2560, .bf16⟩
  | .local _ .vmem, ⟨4, _⟩ => ⟨S512x2560, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S16x2048x1024 : Shape := ⟨3, ![16, 2048, 1024]⟩
abbrev S1024x2920 : Shape := ⟨2, ![1024, 2920]⟩
abbrev S16x2048x2920 : Shape := ⟨3, ![16, 2048, 2920]⟩
abbrev S32768x2920 : Shape := ⟨2, ![32768, 2920]⟩
abbrev S32768x1152 : Shape := ⟨2, ![32768, 1152]⟩
abbrev S32768x768 : Shape := ⟨2, ![32768, 768]⟩
abbrev S32768x512 : Shape := ⟨2, ![32768, 512]⟩
abbrev S32768x64 : Shape := ⟨2, ![32768, 64]⟩
abbrev S32768x2560 : Shape := ⟨2, ![32768, 2560]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x2920, .f32⟩
  | .hbm, ⟨2, _⟩ => ⟨S16x2048x2920, .f32⟩
  | .hbm, ⟨3, _⟩ => ⟨S32768x2920, .f32⟩
  | .hbm, ⟨4, _⟩ => ⟨S32768x1152, .f32⟩
  | .hbm, ⟨5, _⟩ => ⟨S32768x768, .f32⟩
  | .hbm, ⟨6, _⟩ => ⟨S32768x512, .f32⟩
  | .hbm, ⟨7, _⟩ => ⟨S32768x64, .f32⟩
  | .hbm, ⟨8, _⟩ => ⟨S32768x2560, .f32⟩
  | .hbm, ⟨9, _⟩ => ⟨S32768x2560, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Experts.lean ====
abbrev S770048x512 : Shape := ⟨2, ![770048, 512]⟩
abbrev S376 : Shape := ⟨1, ![376]⟩
abbrev S1 : Shape := ⟨1, ![1]⟩
abbrev S64x1024x256 : Shape := ⟨3, ![64, 1024, 256]⟩
abbrev S64x256x1024 : Shape := ⟨3, ![64, 256, 1024]⟩
abbrev S2048x512 : Shape := ⟨2, ![2048, 512]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024x512 : Shape := ⟨2, ![1024, 512]⟩
abbrev S1024x1024 : Shape := ⟨2, ![1024, 1024]⟩

abbrev nBuf : Space → Nat
  | .hbm => 5
  | .vmem => 13
  | .smem => 2
  | _ => 0

abbrev bufTy : (tb : Table) → Fin (tcTables nBuf tb) → BufTy
  | .hbm, ⟨0, _⟩ => ⟨S770048x512, .bf16⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S770048x512, .bf16⟩
  | .local _ .vmem, ⟨0, _⟩ => ⟨S2048x512, .bf16⟩
  | .local _ .vmem, ⟨1, _⟩ => ⟨S2048x512, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S2048x512, .bf16⟩
  | .local _ .vmem, ⟨9, _⟩ => ⟨S2048x512, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S376, .i32⟩
  | .local _ .smem, ⟨1, _⟩ => ⟨S1, .i32⟩
  | _, _ => ⟨S770048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![376], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S376.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S376) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S376.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S376) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S376.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S376) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsIdeal.lean ====
variable {F : FTy → Type} [FloatOps F]
-- ==== ExpertsRefIdeal.lean ====
abbrev S770048x512 : Shape := ⟨2, ![770048, 512]⟩
abbrev S376 : Shape := ⟨1, ![376]⟩
abbrev S1 : Shape := ⟨1, ![1]⟩
abbrev S64x1024x256 : Shape := ⟨3, ![64, 1024, 256]⟩
abbrev S64x256x1024 : Shape := ⟨3, ![64, 256, 1024]⟩
abbrev S376x1024x1024 : Shape := ⟨3, ![376, 1024, 1024]⟩
abbrev S_ : Shape := ⟨0, ![]⟩
abbrev S376x1 : Shape := ⟨2, ![376, 1]⟩
abbrev S376x1024x256 : Shape := ⟨3, ![376, 1024, 256]⟩
abbrev S376x256x1024 : Shape := ⟨3, ![376, 256, 1024]⟩
abbrev S376x1x1 : Shape := ⟨3, ![376, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S770048x512, .bf16⟩
  | .hbm, ⟨1, _⟩ => ⟨S376, .i32⟩
  | .hbm, ⟨2, _⟩ => ⟨S1, .i32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S770048x512, .f32⟩
  | .hbm, ⟨7, _⟩ => ⟨S376x1024x1024, .f32⟩
  | .hbm, ⟨8, _⟩ => ⟨S_, .i32⟩
  | .hbm, ⟨9, _⟩ => ⟨S376, .i32⟩
  | .hbm, ⟨10, _⟩ => ⟨S376, .i1⟩
  | .hbm, ⟨11, _⟩ => ⟨S_, .i32⟩
  | .hbm, ⟨12, _⟩ => ⟨S376, .i32⟩
  | .hbm, ⟨13, _⟩ => ⟨S376, .i32⟩
  | .hbm, ⟨14, _⟩ => ⟨S376, .i32⟩
  | .hbm, ⟨15, _⟩ => ⟨S376x1, .i32⟩
  | .hbm, ⟨16, _⟩ => ⟨S376x1024x256, .f32⟩
  | .hbm, ⟨17, _⟩ => ⟨S_, .i32⟩
  | .hbm, ⟨18, _⟩ => ⟨S376, .i32⟩
  | .hbm, ⟨19, _⟩ => ⟨S376, .i1⟩
  | .hbm, ⟨20, _⟩ => ⟨S_, .i32⟩
  | .hbm, ⟨21, _⟩ => ⟨S376, .i32⟩
  | .hbm, ⟨22, _⟩ => ⟨S376, .i32⟩
  | .hbm, ⟨23, _⟩ => ⟨S376, .i32⟩
  | .hbm, ⟨24, _⟩ => ⟨S376x1, .i32⟩
  | .hbm, ⟨25, _⟩ => ⟨S376x1024x256, .f32⟩
  | .hbm, ⟨26, _⟩ => ⟨S_, .i32⟩
  | .hbm, ⟨27, _⟩ => ⟨S376, .i32⟩
  | .hbm, ⟨28, _⟩ => ⟨S376, .i1⟩
  | .hbm, ⟨29, _⟩ => ⟨S_, .i32⟩
  | .hbm, ⟨30, _⟩ => ⟨S376, .i32⟩
  | .hbm, ⟨31, _⟩ => ⟨S376, .i32⟩
  | .hbm, ⟨32, _⟩ => ⟨S376, .i32⟩
  | .hbm, ⟨33, _⟩ => ⟨S376x1, .i32⟩
  | .hbm, ⟨34, _⟩ => ⟨S376x256x1024, .f32⟩
  | .hbm, ⟨35, _⟩ => ⟨S376x1024x256, .f32⟩
  | .hbm, ⟨36, _⟩ => ⟨S376x1024x256, .f32⟩
  | .hbm, ⟨37, _⟩ => ⟨S376x1024x256, .f32⟩
  | .hbm, ⟨38, _⟩ => ⟨S376x1024x256, .f32⟩
  | .hbm, ⟨39, _⟩ => ⟨S_, .f32⟩
  | .hbm, ⟨40, _⟩ => ⟨S376x1024x256, .f32⟩
  | .hbm, ⟨41, _⟩ => ⟨S376x1024x256, .f32⟩
  | .hbm, ⟨42, _⟩ => ⟨S_, .f32⟩
  | .hbm, ⟨43, _⟩ => ⟨S376x1024x256, .f32⟩
  | .hbm, ⟨44, _⟩ => ⟨S376x1024x256, .f32⟩
  | .hbm, ⟨45, _⟩ => ⟨S376x1024x256, .f32⟩
  | .hbm, ⟨46, _⟩ => ⟨S376x1024x256, .f32⟩
  | .hbm, ⟨47, _⟩ => ⟨S376x1024x1024, .f32⟩
  | .hbm, ⟨48, _⟩ => ⟨S376, .i32⟩
  | .hbm, ⟨49, _⟩ => ⟨S_, .i32⟩
  | .hbm, ⟨50, _⟩ => ⟨S376, .i32⟩
  | .hbm, ⟨51, _⟩ => ⟨S376, .i1⟩
  | .hbm, ⟨52, _⟩ => ⟨S376x1x1, .i1⟩
  | .hbm, ⟨53, _⟩ => ⟨S_, .f32⟩
  | .hbm, ⟨54, _⟩ => ⟨S_, .f32⟩
  | .hbm, ⟨55, _⟩ => ⟨S376x1024x1024, .i1⟩
  | .hbm, ⟨56, _⟩ => ⟨S376x1024x1024, .f32⟩
  | .hbm, ⟨57, _⟩ => ⟨S376x1024x1024, .f32⟩
  | .hbm, ⟨58, _⟩ => ⟨S770048x512, .f32⟩
  | .hbm, ⟨59, _⟩ => ⟨S770048x512, .bf16⟩
  | _, _ => ⟨S770048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proof.ExpertsIdealFrame.lean ====
/- The frame of the experts' call after its casts are read as identities: the run, its body case by case, and the arrays it leaves. -/
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp
public import Idealize.ShloMosaic.Lib.Quiescent

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The result's window is written back at every point, at any contents of the tables. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with. -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

/-! ## The program up to its call -/

/-- Core `c`'s TensorCore buffers when the call begins: as launched. -/
abbrev V (c : Dev nD) (b : Ref sig .tc) : Buf (Elt F) ((c : Thread nD τ).loc b) := m ((c : Thread nD τ).loc b)

set_option maxHeartbeats 800000 in
/-- The program up to its call: the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the call begins (on the one device). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The condition on the tables' contents: every window whose index map reads a table has its block inside the array at
    every point. -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S376 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- The type of a table's contents on core `c`, and the table held at half the share; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves that the body is handed, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, if the body leaves it there. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, if the body leaves it there. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, if the body leaves it there. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, if the body leaves it there. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- From the pipeline's arrays after the run to the argument arrays: each ends as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The body's buffers -/

/-- One staging buffer of output window 4, through which its contents are stated. -/
abbrev VO0_4 : View sig .tc .vmem S2048x512 .bf16 := (Memref.whole cc0_stg4_0 : Memref sig .tc .vmem S2048x512 .bf16).view
/-- Each window's current staging buffer at point `t`, and that it is a whole buffer. -/
abbrev ms0_0 (hO : Ok m) (t : Fin (cfgM m hO).N) : Memref sig .tc .vmem S2048x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x256 .bf16 := Memref.whole cc0_scratch0
abbrev scM0_1 : Memref sig .tc .vmem S1024x256 .bf16 := Memref.whole cc0_scratch1
abbrev scM0_2 : Memref sig .tc .vmem S256x1024 .bf16 := Memref.whole cc0_scratch2

/-- What the body is handed beside the windows: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The body's conditions -/

/-- The word of the first table at the offsets `off`. -/
abbrev word0 (c : Dev nD) (off : Fin 1 → Nat) (inb : ∀ a, off a + S1.size a ≤ S376.size a) (xt0 : TbBuf0 (F := F) c tbM0_0) : BitVec 32 :=
  tbM0_0.view.readAt (Elt F) (Rect.unit (s := S376) off S1.size inb).toLoadRect xt0 (Shape.Idx.first (numel1_S1.symm ▸ Nat.one_pos))
/-- The one word of the second table. -/
abbrev word1 (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
/-- The weights are copied at the first point and where the expert changes. -/
abbrev copies (i : grid0.Coords) (w w' : BitVec 32) : Prop :=
  (Scalar.cmpi .ne (Scalar.extui (Scalar.ori (Scalar.cmpi .eq (BitVec.ofNat 32 (i 0).val) 0#32) (Scalar.cmpi .ne w w'))) 0#32) = 1#1

/-! ## Whole loads and stores -/

theorem rw_a (v : View sig .tc .vmem S2048x512 .bf16) (f : v.ty.Contents (Elt F)) (inb : ∀ a, (![0, 0] : Fin 2 → ℕ) a + (![2048, 512] : Fin 2 → ℕ) a ≤ S2048x512.size a)
    (w : Vec F S2048x512 .bf16) : v.read (Elt F) (v.writes (Elt F) f [⟨Rect.unit (s := S2048x512) ![0, 0] ![2048, 512] inb, w⟩]) = w :=
  View.read_writes_full (s := S2048x512) v f inb w []
theorem rc_a (v : View sig .tc .vmem S2048x512 .bf16) (inb inb' : ∀ a, (![0, 0] : Fin 2 → ℕ) a + (![2048, 512] : Fin 2 → ℕ) a ≤ S2048x512.size a)
    (w : Vec F S2048x512 .bf16) : v.readCov (Val := Elt F) [⟨Rect.unit (s := S2048x512) ![0, 0] ![2048, 512] inb', w⟩] (Rect.unit (s := S2048x512) ![0, 0] ![2048, 512] inb).toLoadRect = w :=
  View.readCov_full (s := S2048x512) v inb inb' w []
theorem ra_a {M : Memref sig .tc .vmem S2048x512 .bf16} (h : M.IsWhole) (inb : ∀ a, (![0, 0] : Fin 2 → ℕ) a + (![2048, 512] : Fin 2 → ℕ) a ≤ S2048x512.size a)
    (x : Vec F S2048x512 .bf16) : M.view.readAt (Elt F) (Rect.unit (s := S2048x512) ![0, 0] ![2048, 512] inb).toLoadRect (h.unread x) = x :=
  Eq.trans (View.readAt_full (Val := Elt F) (s := S2048x512) (off := ![0, 0]) M.view (h.unread x) inb) (h.read_unread x)

theorem rw_b (v : View sig .tc .vmem S1x1024x256 .f32) (f : v.ty.Contents (Elt F)) (inb : ∀ a, (![0, 0, 0] : Fin 3 → ℕ) a + (![1, 1024, 256] : Fin 3 → ℕ) a ≤ S1x1024x256.size a)
    (w : Vec F S1x1024x256 .f32) : v.read (Elt F) (v.writes (Elt F) f [⟨Rect.unit (s := S1x1024x256) ![0, 0, 0] ![1, 1024, 256] inb, w⟩]) = w :=
  View.read_writes_full (s := S1x1024x256) v f inb w []
theorem rc_b (v : View sig .tc .vmem S1x1024x256 .f32) (inb inb' : ∀ a, (![0, 0, 0] : Fin 3 → ℕ) a + (![1, 1024, 256] : Fin 3 → ℕ) a ≤ S1x1024x256.size a)
    (w : Vec F S1x1024x256 .f32) : v.readCov (Val := Elt F) [⟨Rect.unit (s := S1x1024x256) ![0, 0, 0] ![1, 1024, 256] inb', w⟩] (Rect.unit (s := S1x1024x256) ![0, 0, 0] ![1, 1024, 256] inb).toLoadRect = w :=
  View.readCov_full (s := S1x1024x256) v inb inb' w []
theorem ra_b {M : Memref sig .tc .vmem S1x1024x256 .f32} (h : M.IsWhole) (inb : ∀ a, (![0, 0, 0] : Fin 3 → ℕ) a + (![1, 1024, 256] : Fin 3 → ℕ) a ≤ S1x1024x256.size a)
    (x : Vec F S1x1024x256 .f32) : M.view.readAt (Elt F) (Rect.unit (s := S1x1024x256) ![0, 0, 0] ![1, 1024, 256] inb).toLoadRect (h.unread x) = x :=
  Eq.trans (View.readAt_full (Val := Elt F) (s := S1x1024x256) (off := ![0, 0, 0]) M.view (h.unread x) inb) (h.read_unread x)

theorem rw_c (v : View sig .tc .vmem S1x256x1024 .f32) (f : v.ty.Contents (Elt F)) (inb : ∀ a, (![0, 0, 0] : Fin 3 → ℕ) a + (![1, 256, 1024] : Fin 3 → ℕ) a ≤ S1x256x1024.size a)
    (w : Vec F S1x256x1024 .f32) : v.read (Elt F) (v.writes (Elt F) f [⟨Rect.unit (s := S1x256x1024) ![0, 0, 0] ![1, 256, 1024] inb, w⟩]) = w :=
  View.read_writes_full (s := S1x256x1024) v f inb w []
theorem rc_c (v : View sig .tc .vmem S1x256x1024 .f32) (inb inb' : ∀ a, (![0, 0, 0] : Fin 3 → ℕ) a + (![1, 256, 1024] : Fin 3 → ℕ) a ≤ S1x256x1024.size a)
    (w : Vec F S1x256x1024 .f32) : v.readCov (Val := Elt F) [⟨Rect.unit (s := S1x256x1024) ![0, 0, 0] ![1, 256, 1024] inb', w⟩] (Rect.unit (s := S1x256x1024) ![0, 0, 0] ![1, 256, 1024] inb).toLoadRect = w :=
  View.readCov_full (s := S1x256x1024) v inb inb' w []
theorem ra_c {M : Memref sig .tc .vmem S1x256x1024 .f32} (h : M.IsWhole) (inb : ∀ a, (![0, 0, 0] : Fin 3 → ℕ) a + (![1, 256, 1024] : Fin 3 → ℕ) a ≤ S1x256x1024.size a)
    (x : Vec F S1x256x1024 .f32) : M.view.readAt (Elt F) (Rect.unit (s := S1x256x1024) ![0, 0, 0] ![1, 256, 1024] inb).toLoadRect (h.unread x) = x :=
  Eq.trans (View.readAt_full (Val := Elt F) (s := S1x256x1024) (off := ![0, 0, 0]) M.view (h.unread x) inb) (h.read_unread x)

theorem rw_d (v : View sig .tc .vmem S1024x256 .bf16) (f : v.ty.Contents (Elt F)) (inb : ∀ a, (![0, 0] : Fin 2 → ℕ) a + (![1024, 256] : Fin 2 → ℕ) a ≤ S1024x256.size a)
    (w : Vec F S1024x256 .bf16) : v.read (Elt F) (v.writes (Elt F) f [⟨Rect.unit (s := S1024x256) ![0, 0] ![1024, 256] inb, w⟩]) = w :=
  View.read_writes_full (s := S1024x256) v f inb w []
theorem rc_d (v : View sig .tc .vmem S1024x256 .bf16) (inb inb' : ∀ a, (![0, 0] : Fin 2 → ℕ) a + (![1024, 256] : Fin 2 → ℕ) a ≤ S1024x256.size a)
    (w : Vec F S1024x256 .bf16) : v.readCov (Val := Elt F) [⟨Rect.unit (s := S1024x256) ![0, 0] ![1024, 256] inb', w⟩] (Rect.unit (s := S1024x256) ![0, 0] ![1024, 256] inb).toLoadRect = w :=
  View.readCov_full (s := S1024x256) v inb inb' w []
theorem ra_d {M : Memref sig .tc .vmem S1024x256 .bf16} (h : M.IsWhole) (inb : ∀ a, (![0, 0] : Fin 2 → ℕ) a + (![1024, 256] : Fin 2 → ℕ) a ≤ S1024x256.size a)
    (x : Vec F S1024x256 .bf16) : M.view.readAt (Elt F) (Rect.unit (s := S1024x256) ![0, 0] ![1024, 256] inb).toLoadRect (h.unread x) = x :=
  Eq.trans (View.readAt_full (Val := Elt F) (s := S1024x256) (off := ![0, 0]) M.view (h.unread x) inb) (h.read_unread x)

theorem rw_e (v : View sig .tc .vmem S256x1024 .bf16) (f : v.ty.Contents (Elt F)) (inb : ∀ a, (![0, 0] : Fin 2 → ℕ) a + (![256, 1024] : Fin 2 → ℕ) a ≤ S256x1024.size a)
    (w : Vec F S256x1024 .bf16) : v.read (Elt F) (v.writes (Elt F) f [⟨Rect.unit (s := S256x1024) ![0, 0] ![256, 1024] inb, w⟩]) = w :=
  View.read_writes_full (s := S256x1024) v f inb w []
theorem rc_e (v : View sig .tc .vmem S256x1024 .bf16) (inb inb' : ∀ a, (![0, 0] : Fin 2 → ℕ) a + (![256, 1024] : Fin 2 → ℕ) a ≤ S256x1024.size a)
    (w : Vec F S256x1024 .bf16) : v.readCov (Val := Elt F) [⟨Rect.unit (s := S256x1024) ![0, 0] ![256, 1024] inb', w⟩] (Rect.unit (s := S256x1024) ![0, 0] ![256, 1024] inb).toLoadRect = w :=
  View.readCov_full (s := S256x1024) v inb inb' w []
theorem ra_e {M : Memref sig .tc .vmem S256x1024 .bf16} (h : M.IsWhole) (inb : ∀ a, (![0, 0] : Fin 2 → ℕ) a + (![256, 1024] : Fin 2 → ℕ) a ≤ S256x1024.size a)
    (x : Vec F S256x1024 .bf16) : M.view.readAt (Elt F) (Rect.unit (s := S256x1024) ![0, 0] ![256, 1024] inb).toLoadRect (h.unread x) = x :=
  Eq.trans (View.readAt_full (Val := Elt F) (s := S256x1024) (off := ![0, 0]) M.view (h.unread x) inb) (h.read_unread x)

set_option maxHeartbeats 1000000 in
/-- The body where the weights are copied and the block is in use. -/
theorem run_copy_used (c : Dev nD) (i : grid0.Coords) (arg3 : Memref sig .tc .vmem S2048x512 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S2048x512 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S2048x512 .bf16) (x1 : Vec F S1x1024x256 .f32) (x2 : Vec F S1x1024x256 .f32) (x3 : Vec F S1x256x1024 .f32)
    (xt0 : TbBuf0 (F := F) c tbM0_0) (xt1 : TbBuf0 (F := F) c tbM0_1)
    (hc1 : copies i (word0 c (k0_off1 i) (k0_off1_inb i) xt0) (word0 c (k0_off2 i) (k0_off2_inb i) xt0))
    (hc2 : (k0_cond2 i (word1 c xt1) = 1#1)) (hc3 : ¬(k0_cond3 i (word1 c xt1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    delta run_copy_used.sl.v29 run_copy_used.sl.v31 run_copy_used.sl.v41
    delta run_copy_used.sl.HS0_1 run_copy_used.sl.HS1_1 run_copy_used.sl.HS2_1
    simp only [rw_a, rc_a, ra_a, rw_b, rc_b, ra_b, rw_c, rc_c, ra_c, rw_d, rc_d, ra_d, rw_e, rc_e, ra_e]
  isplitl [HS0]
  · iexists _; isplitr; swap; · iexact HS0
    ipureintro
    delta run_copy_used.sl.HS0_1
    simp only [rw_a, rc_a, ra_a, rw_b, rc_b, ra_b, rw_c, rc_c, ra_c, rw_d, rc_d, ra_d, rw_e, rc_e, ra_e]
  isplitl [HS1]
  · iexists _; isplitr; swap; · iexact HS1
    ipureintro
    delta run_copy_used.sl.HS1_1
    simp only [rw_a, rc_a, ra_a, rw_b, rc_b, ra_b, rw_c, rc_c, ra_c, rw_d, rc_d, ra_d, rw_e, rc_e, ra_e]
  isplitl [HS2]
  · iexists _; isplitr; swap; · iexact HS2
    ipureintro
    delta run_copy_used.sl.HS2_1
    simp only [rw_a, rc_a, ra_a, rw_b, rc_b, ra_b, rw_c, rc_c, ra_c, rw_d, rc_d, ra_d, rw_e, rc_e, ra_e]
  isplitl [HT0]; · iexact HT0
  iexact HT1

set_option maxHeartbeats 1000000 in
/-- The body where the weights are copied and the block is not in use. -/
theorem run_copy_idle (c : Dev nD) (i : grid0.Coords) (arg3 : Memref sig .tc .vmem S2048x512 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S2048x512 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S2048x512 .bf16) (x1 : Vec F S1x1024x256 .f32) (x2 : Vec F S1x1024x256 .f32) (x3 : Vec F S1x256x1024 .f32)
    (xt0 : TbBuf0 (F := F) c tbM0_0) (xt1 : TbBuf0 (F := F) c tbM0_1)
    (hc1 : copies i (word0 c (k0_off1 i) (k0_off1_inb i) xt0) (word0 c (k0_off2 i) (k0_off2_inb i) xt0))
    (hc2 : ¬(k0_cond2 i (word1 c xt1) = 1#1)) (hc3 : (k0_cond3 i (word1 c xt1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (F := F)) ∗ owns (c : Thread nD τ) arg8 fullShare (k0_pay1 x1) ∗ owns (c : Thread nD τ) arg9 fullShare (k0_pay2 x2) ∗ owns (c : Thread nD τ) arg10 fullShare (k0_pay3 x3) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    simp only [rw_a, rc_a, ra_a, rw_b, rc_b, ra_b, rw_c, rc_c, ra_c, rw_d, rc_d, ra_d, rw_e, rc_e, ra_e]
  isplitl [HS0]
  · iexists _; isplitr; swap; · iexact HS0
    ipureintro
    simp only [rw_a, rc_a, ra_a, rw_b, rc_b, ra_b, rw_c, rc_c, ra_c, rw_d, rc_d, ra_d, rw_e, rc_e, ra_e]
  isplitl [HS1]
  · iexists _; isplitr; swap; · iexact HS1
    ipureintro
    simp only [rw_a, rc_a, ra_a, rw_b, rc_b, ra_b, rw_c, rc_c, ra_c, rw_d, rc_d, ra_d, rw_e, rc_e, ra_e]
  isplitl [HS2]
  · iexists _; isplitr; swap; · iexact HS2
    ipureintro
    simp only [rw_a, rc_a, ra_a, rw_b, rc_b, ra_b, rw_c, rc_c, ra_c, rw_d, rc_d, ra_d, rw_e, rc_e, ra_e]
  isplitl [HT0]; · iexact HT0
  iexact HT1

set_option maxHeartbeats 1000000 in
/-- The body where the weights are kept and the block is in use. -/
theorem run_keep_used (c : Dev nD) (i : grid0.Coords) (arg3 : Memref sig .tc .vmem S2048x512 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S2048x512 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S2048x512 .bf16) (x1 : Vec F S1x1024x256 .f32) (x2 : Vec F S1x1024x256 .f32) (x3 : Vec F S1x256x1024 .f32)
    (s0 s1 : Vec F S1024x256 .bf16) (s2 : Vec F S256x1024 .bf16)
    (xt0 : TbBuf0 (F := F) c tbM0_0) (xt1 : TbBuf0 (F := F) c tbM0_1)
    (hc1 : ¬copies i (word0 c (k0_off1 i) (k0_off1_inb i) xt0) (word0 c (k0_off2 i) (k0_off2_inb i) xt0))
    (hc2 : (k0_cond2 i (word1 c xt1) = 1#1)) (hc3 : ¬(k0_cond3 i (word1 c xt1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 x0 s0 s1 s2) ∗ owns (c : Thread nD τ) arg8 fullShare s0 ∗ owns (c : Thread nD τ) arg9 fullShare s1 ∗ owns (c : Thread nD τ) arg10 fullShare s2 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    simp only [rw_a, rc_a, ra_a, rw_b, rc_b, ra_b, rw_c, rc_c, ra_c, rw_d, rc_d, ra_d, rw_e, rc_e, ra_e]
  isplitl [HS0]
  · iexists _; isplitr; swap; · iexact HS0
    ipureintro
    exact harg8.read_unread _
  isplitl [HS1]
  · iexists _; isplitr; swap; · iexact HS1
    ipureintro
    exact harg9.read_unread _
  isplitl [HS2]
  · iexists _; isplitr; swap; · iexact HS2
    ipureintro
    exact harg10.read_unread _
  isplitl [HT0]; · iexact HT0
  iexact HT1

set_option maxHeartbeats 1000000 in
/-- The body where the weights are kept and the block is not in use. -/
theorem run_keep_idle (c : Dev nD) (i : grid0.Coords) (arg3 : Memref sig .tc .vmem S2048x512 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S2048x512 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole)
    (x0 : Vec F S2048x512 .bf16) (x1 : Vec F S1x1024x256 .f32) (x2 : Vec F S1x1024x256 .f32) (x3 : Vec F S1x256x1024 .f32)
    (s0 s1 : Vec F S1024x256 .bf16) (s2 : Vec F S256x1024 .bf16)
    (xt0 : TbBuf0 (F := F) c tbM0_0) (xt1 : TbBuf0 (F := F) c tbM0_1)
    (hc1 : ¬copies i (word0 c (k0_off1 i) (k0_off1_inb i) xt0) (word0 c (k0_off2 i) (k0_off2_inb i) xt0))
    (hc2 : ¬(k0_cond2 i (word1 c xt1) = 1#1)) (hc3 : (k0_cond3 i (word1 c xt1) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (F := F)) ∗ owns (c : Thread nD τ) arg8 fullShare s0 ∗ owns (c : Thread nD τ) arg9 fullShare s1 ∗ owns (c : Thread nD τ) arg10 fullShare s2 ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    simp only [rw_a, rc_a, ra_a, rw_b, rc_b, ra_b, rw_c, rc_c, ra_c, rw_d, rc_d, ra_d, rw_e, rc_e, ra_e]
  isplitl [HS0]
  · iexists _; isplitr; swap; · iexact HS0
    ipureintro
    exact harg8.read_unread _
  isplitl [HS1]
  · iexists _; isplitr; swap; · iexact HS1
    ipureintro
    exact harg9.read_unread _
  isplitl [HS2]
  · iexists _; isplitr; swap; · iexact HS2
    ipureintro
    exact harg10.read_unread _
  isplitl [HT0]; · iexact HT0
  iexact HT1

/-! ## Which case a point is -/

theorem off1_eq : ∀ t : Fin grid0.N, k0_off1 (grid0.coords t) = ![t.val] := by decide +kernel
/-- The second offset is that of the point before. -/
theorem off2_eq : ∀ t : Fin grid0.N, t.val ≠ 0 → k0_off2 (grid0.coords t) = ![t.val - 1] := by decide +kernel

/-- Where the weights are kept, the point is not the first and the two words are equal. -/
theorem not_copies {i : grid0.Coords} {w w' : BitVec 32} (h : ¬copies i w w') : (i 0).val ≠ 0 ∧ w = w' := by
  have key : ∀ a b : BitVec 1, ¬(Scalar.cmpi .ne (Scalar.extui (Scalar.ori a b)) 0#32 = 1#1) → a = 0#1 ∧ b = 0#1 := by decide
  obtain ⟨ha, hb⟩ := key _ _ h
  refine ⟨fun h0 => ?_, ?_⟩
  · rw [h0] at ha; exact absurd ha (by decide)
  · by_contra hne
    have hb' : BitVec.ofBool (w != w') = 0#1 := hb
    simp [hne] at hb'

/-- A block is in use, or it is not: exactly one of the last two conditions holds. -/
theorem cond3_iff (i : grid0.Coords) (w : BitVec 32) : k0_cond3 i w = 1#1 ↔ ¬(k0_cond2 i w = 1#1) := by
  have e3 : k0_cond3 i w = Scalar.cmpi .ne (Scalar.extui (BitVec.ofBool (w.sle (BitVec.ofNat 32 (i 0).val)))) 0#32 := rfl
  have e2 : k0_cond2 i w = Scalar.cmpi .ne (Scalar.extui (BitVec.ofBool ((BitVec.ofNat 32 (i 0).val).slt w))) 0#32 := rfl
  have e : w.sle (BitVec.ofNat 32 (i 0).val) = !((BitVec.ofNat 32 (i 0).val).slt w) := by
    rw [BitVec.sle_eq_not_slt]
  rw [e3, e2, e]
  cases (BitVec.ofNat 32 (i 0).val).slt w <;> decide

theorem word0_congr (c : Dev nD) {off off' : Fin 1 → Nat} (h : off = off') (inb) (inb') (xt0 : TbBuf0 (F := F) c tbM0_0) :
    word0 c off inb xt0 = word0 c off' inb' xt0 := by subst h; rfl

/-- The expert's word of a point. -/
abbrev ew (c : Dev nD) (t : Fin grid0.N) : BitVec 32 := word0 (F := F) c (k0_off1 (grid0.coords t)) (k0_off1_inb (grid0.coords t)) (tbl m 0)

theorem index1 (hO : Ok m) (c : Dev nD) (t : Fin (cfgM m hO).N) : ((cfgM m hO).win 1).index t = ![(ew m c t).toNat, 0, 0] := rfl
theorem index2 (hO : Ok m) (c : Dev nD) (t : Fin (cfgM m hO).N) : ((cfgM m hO).win 2).index t = ![(ew m c t).toNat, 0, 0] := rfl
theorem index3 (hO : Ok m) (c : Dev nD) (t : Fin (cfgM m hO).N) : ((cfgM m hO).win 3).index t = ![(ew m c t).toNat, 0, 0] := rfl

/-- The point before. -/
def prev (t : Fin grid0.N) : Fin grid0.N := ⟨t.val - 1, lt_of_le_of_lt (Nat.sub_le _ _) t.isLt⟩

/-- Where the weights are kept, the expert is that of the point before. -/
theorem kept (c : Dev nD) (t : Fin grid0.N)
    (h : ¬copies (grid0.coords t) (word0 (F := F) c (k0_off1 (grid0.coords t)) (k0_off1_inb (grid0.coords t)) (tbl m 0)) (word0 (F := F) c (k0_off2 (grid0.coords t)) (k0_off2_inb (grid0.coords t)) (tbl m 0))) :
    t.val ≠ 0 ∧ ew m c (prev t) = ew m c t := by
  obtain ⟨h0, hw⟩ := not_copies h
  have ht : t.val ≠ 0 := by
    intro h'
    apply h0
    have := Pipeline.Grid.coords_val (G := grid0) t 0 (S := 1) (B := 376) (by decide) rfl
    omega
  refine ⟨ht, ?_⟩
  refine Eq.trans ?_ hw.symm
  exact word0_congr c ((off1_eq (prev t)).trans (off2_eq t ht).symm) _ _ _

/-! ## The pipeline's proof data -/

/-- What the body leaves in the result's buffer at a point. -/
def out (hO : Ok m) (c : Dev nD) (t : Fin (cfgM m hO).N) : Vec F S2048x512 .bf16 :=
  if k0_cond2 (grid0.coords t) (word1 (F := F) c (tbl m 1)) = 1#1 then
    k0_pay4 (iblk m hO c 0 t) (k0_pay1 (iblk m hO c 1 t)) (k0_pay2 (iblk m hO c 2 t)) (k0_pay3 (iblk m hO c 3 t))
  else k0_pay5

/-- The scratch buffers before a point: at anything before the first, then at the weights of the point before. -/
def scr (hO : Ok m) (c : Dev nD) (t : Fin ((cfgM m hO).N + 1)) : sProp 𝕄 :=
  if h : t.val = 0 then
    iprop((∃ d, owns (c : Thread nD τ) scM0_0 fullShare d) ∗ (∃ d, owns (c : Thread nD τ) scM0_1 fullShare d) ∗ (∃ d, owns (c : Thread nD τ) scM0_2 fullShare d))
  else
    iprop(owns (c : Thread nD τ) scM0_0 fullShare (k0_pay1 (iblk m hO c 1 ⟨t.val - 1, by have := t.isLt; omega⟩))
      ∗ owns (c : Thread nD τ) scM0_1 fullShare (k0_pay2 (iblk m hO c 2 ⟨t.val - 1, by have := t.isLt; omega⟩))
      ∗ owns (c : Thread nD τ) scM0_2 fullShare (k0_pay3 (iblk m hO c 3 ⟨t.val - 1, by have := t.isLt; omega⟩)))

/-- They are at some contents. -/
theorem scr_any (hO : Ok m) (c : Dev nD) (t : Fin ((cfgM m hO).N + 1)) : scr m hO c t
    ⊢ iprop((∃ d, owns (c : Thread nD τ) scM0_0 fullShare d) ∗ (∃ d, owns (c : Thread nD τ) scM0_1 fullShare d) ∗ (∃ d, owns (c : Thread nD τ) scM0_2 fullShare d)) := by
  unfold scr
  split
  · exact .rfl
  · iintro ⟨H0, H1, H2⟩
    isplitl [H0]; · iexists _; iexact H0
    isplitl [H1]; · iexists _; iexact H1
    iexists _; iexact H2

/-- The proof data of the pipeline: each input's buffer is left at its block, the result's at `out`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (out m hO c t)
  Φ t := iprop((scr m hO c t ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (out m hO c t) := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- Points of one expert have one block of window 1. -/
theorem iblk_eq1 (hO : Ok m) (c : Dev nD) (t t' : Fin (cfgM m hO).N) (h : ew m c t = ew m c t') :
    (iblk m hO c 1 t : Vec F S1x1024x256 .f32) = iblk m hO c 1 t' := by
  have e := Dat.fetched_congr (dats m hO 0 c) 1 (t := t) (t' := t') ((index1 m hO c t).trans ((congrArg (fun x : BitVec 32 => ![x.toNat, 0, 0]) h).trans (index1 m hO c t').symm)) rfl (iblk m hO c 1 t)
  exact (show (dats m hO 0 c).fetched 1 t (iblk m hO c 1 t) = iblk m hO c 1 t from by unfold Dat.fetched Dat.blockOf iblk; rw [A_eq]; try rfl).symm.trans
    (e.trans (by unfold Dat.fetched Dat.blockOf iblk; rw [A_eq]; try rfl))

/-- Points of one expert have one block of window 2. -/
theorem iblk_eq2 (hO : Ok m) (c : Dev nD) (t t' : Fin (cfgM m hO).N) (h : ew m c t = ew m c t') :
    (iblk m hO c 2 t : Vec F S1x1024x256 .f32) = iblk m hO c 2 t' := by
  have e := Dat.fetched_congr (dats m hO 0 c) 2 (t := t) (t' := t') ((index2 m hO c t).trans ((congrArg (fun x : BitVec 32 => ![x.toNat, 0, 0]) h).trans (index2 m hO c t').symm)) rfl (iblk m hO c 2 t)
  exact (show (dats m hO 0 c).fetched 2 t (iblk m hO c 2 t) = iblk m hO c 2 t from by unfold Dat.fetched Dat.blockOf iblk; rw [A_eq]; try rfl).symm.trans
    (e.trans (by unfold Dat.fetched Dat.blockOf iblk; rw [A_eq]; try rfl))

/-- Points of one expert have one block of window 3. -/
theorem iblk_eq3 (hO : Ok m) (c : Dev nD) (t t' : Fin (cfgM m hO).N) (h : ew m c t = ew m c t') :
    (iblk m hO c 3 t : Vec F S1x256x1024 .f32) = iblk m hO c 3 t' := by
  have e := Dat.fetched_congr (dats m hO 0 c) 3 (t := t) (t' := t') ((index3 m hO c t).trans ((congrArg (fun x : BitVec 32 => ![x.toNat, 0, 0]) h).trans (index3 m hO c t').symm)) rfl (iblk m hO c 3 t)
  exact (show (dats m hO 0 c).fetched 3 t (iblk m hO c 3 t) = iblk m hO c 3 t from by unfold Dat.fetched Dat.blockOf iblk; rw [A_eq]; try rfl).symm.trans
    (e.trans (by unfold Dat.fetched Dat.blockOf iblk; rw [A_eq]; try rfl))

/-- Where the weights are kept, the scratch buffers hold the point's own. -/
theorem scr_kept (hO : Ok m) (c : Dev nD) (t : Fin (cfgM m hO).N)
    (h : ¬copies (grid0.coords t) (word0 (F := F) c (k0_off1 (grid0.coords t)) (k0_off1_inb (grid0.coords t)) (tbl m 0)) (word0 (F := F) c (k0_off2 (grid0.coords t)) (k0_off2_inb (grid0.coords t)) (tbl m 0))) :
    scr m hO c t.castSucc = iprop(owns (c : Thread nD τ) scM0_0 fullShare (k0_pay1 (iblk m hO c 1 t))
      ∗ owns (c : Thread nD τ) scM0_1 fullShare (k0_pay2 (iblk m hO c 2 t)) ∗ owns (c : Thread nD τ) scM0_2 fullShare (k0_pay3 (iblk m hO c 3 t))) := by
  obtain ⟨h0, hw⟩ := kept m c t h
  have e1 := iblk_eq1 m hO c (prev t) t hw
  have e2 := iblk_eq2 m hO c (prev t) t hw
  have e3 := iblk_eq3 m hO c (prev t) t hw
  unfold scr
  rw [dif_neg (show ¬(t.castSucc.val = 0) from h0)]
  rw [← e1, ← e2, ← e3]
  rfl

/-- After a point they hold the point's own. -/
theorem scr_succ (hO : Ok m) (c : Dev nD) (t : Fin (cfgM m hO).N) :
    scr m hO c t.succ = iprop(owns (c : Thread nD τ) scM0_0 fullShare (k0_pay1 (iblk m hO c 1 t))
      ∗ owns (c : Thread nD τ) scM0_1 fullShare (k0_pay2 (iblk m hO c 2 t)) ∗ owns (c : Thread nD τ) scM0_2 fullShare (k0_pay3 (iblk m hO c 3 t))) := by
  unfold scr
  rw [dif_neg (show ¬(t.succ.val = 0) from Nat.succ_ne_zero _)]
  rfl

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = iprop((scr m hO c t.succ ∗ (∃ r, prngReg c r)) ∗ Pipeline.ΦT pre0 (tbl m) c) from rfl,
    show (dats m hO 0 c).Φ t.castSucc = iprop((scr m hO c t.castSucc ∗ (∃ r, prngReg c r)) ∗ Pipeline.ΦT pre0 (tbl m) c) from rfl, PhiT0_eq, scr_succ]
  by_cases h1 : copies (grid0.coords t) (word0 (F := F) c (k0_off1 (grid0.coords t)) (k0_off1_inb (grid0.coords t)) (tbl m 0)) (word0 (F := F) c (k0_off2 (grid0.coords t)) (k0_off2_inb (grid0.coords t)) (tbl m 0)) <;>
  by_cases h2 : k0_cond2 (grid0.coords t) (word1 (F := F) c (tbl m 1)) = 1#1
  · have h3 : ¬(k0_cond3 (grid0.coords t) (word1 (F := F) c (tbl m 1)) = 1#1) := fun h => (cond3_iff _ _).1 h h2
    rw [show out m hO c t = _ from if_pos h2]
    iintro ⟨⟨⟨HS, Hg⟩, ⟨HT0, HT1⟩⟩, Ho, ⟨%d0, H0⟩, ⟨%d1, H1⟩, ⟨%d2, H2⟩, ⟨%d3, H3⟩, ⟨%d4, H4⟩⟩
    icases (scr_any m hO c t.castSucc) $$ HS with ⟨HS0, HS1, HS2⟩
    iapply (run_copy_used c (grid0.coords t) _ (hs0_0 m hO t) _ (hs0_1 m hO t) _ (hs0_2 m hO t) _ (hs0_3 m hO t) _ (hs0_4 m hO t) _ (Memref.isWhole_whole _) _ (Memref.isWhole_whole _) _ (Memref.isWhole_whole _) (iblk m hO c 0 t) (iblk m hO c 1 t) (iblk m hO c 2 t) (iblk m hO c 3 t) (tbl m 0) (tbl m 1) h1 h2 h3 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have h3 : (k0_cond3 (grid0.coords t) (word1 (F := F) c (tbl m 1)) = 1#1) := (cond3_iff _ _).2 h2
    rw [show out m hO c t = _ from if_neg h2]
    iintro ⟨⟨⟨HS, Hg⟩, ⟨HT0, HT1⟩⟩, Ho, ⟨%d0, H0⟩, ⟨%d1, H1⟩, ⟨%d2, H2⟩, ⟨%d3, H3⟩, ⟨%d4, H4⟩⟩
    icases (scr_any m hO c t.castSucc) $$ HS with ⟨HS0, HS1, HS2⟩
    iapply (run_copy_idle c (grid0.coords t) _ (hs0_0 m hO t) _ (hs0_1 m hO t) _ (hs0_2 m hO t) _ (hs0_3 m hO t) _ (hs0_4 m hO t) _ (Memref.isWhole_whole _) _ (Memref.isWhole_whole _) _ (Memref.isWhole_whole _) (iblk m hO c 0 t) (iblk m hO c 1 t) (iblk m hO c 2 t) (iblk m hO c 3 t) (tbl m 0) (tbl m 1) h1 h2 h3 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have h3 : ¬(k0_cond3 (grid0.coords t) (word1 (F := F) c (tbl m 1)) = 1#1) := fun h => (cond3_iff _ _).1 h h2
    rw [show out m hO c t = _ from if_pos h2]
    rw [scr_kept m hO c t h1]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_keep_used c (grid0.coords t) _ (hs0_0 m hO t) _ (hs0_1 m hO t) _ (hs0_2 m hO t) _ (hs0_3 m hO t) _ (hs0_4 m hO t) _ (Memref.isWhole_whole _) _ (Memref.isWhole_whole _) _ (Memref.isWhole_whole _) (iblk m hO c 0 t) (iblk m hO c 1 t) (iblk m hO c 2 t) (iblk m hO c 3 t) _ _ _ (tbl m 0) (tbl m 1) h1 h2 h3 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · have h3 : (k0_cond3 (grid0.coords t) (word1 (F := F) c (tbl m 1)) = 1#1) := (cond3_iff _ _).2 h2
    rw [show out m hO c t = _ from if_neg h2]
    rw [scr_kept m hO c t h1]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_keep_idle c (grid0.coords t) _ (hs0_0 m hO t) _ (hs0_1 m hO t) _ (hs0_2 m hO t) _ (hs0_3 m hO t) _ (hs0_4 m hO t) _ (Memref.isWhole_whole _) _ (Memref.isWhole_whole _) _ (Memref.isWhole_whole _) (iblk m hO c 0 t) (iblk m hO c 1 t) (iblk m hO c 2 t) (iblk m hO c 3 t) _ _ _ (tbl m 0) (tbl m 1) h1 h2 h3 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body that the pipeline calls at point `t` is the kernel's, at the point's buffers. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's window is idle at no point. -/
theorem idle4 (hO : Ok m) (t : Fin (cfgM m hO).N) : (cfgM m hO).idle 4 ((cfgM m hO).grid.coords t) = false := by
  show (!(k0_cond2 (grid0.coords t) ((tbl m).atD 1 ![0]) == 1#1) && !(k0_cond3 (grid0.coords t) ((tbl m).atD 1 ![0]) == 1#1)) = false
  by_cases h : k0_cond2 (grid0.coords t) ((tbl m).atD 1 ![0]) = 1#1
  · simp [h]
  · simp [(cond3_iff _ _).2 h]

/-- The obligation of the body, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  dsimp only
  rw [show idle0 (tbl m) 4 (((pcfg0 (F := F)).gridAt (tbl m)).coords t) = false from idle4 m hO t]
  exact .rfl

/-! ## The run and the frame -/

set_option backward.isDefEq.respectTransparency.types false in
/-- The run of the whole program. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop((scr m hO c 0 ∗ (∃ r, prngReg c r)) ∗ Pipeline.ΦT pre0 (tbl m) c)
      rw [PhiA0_eq]; exact .rfl)
    (hout := fun c => by
      show iprop((scr m hO c (Fin.last _) ∗ (∃ r, prngReg c r)) ∗ Pipeline.ΦT pre0 (tbl m) c) ⊢ Pipeline.ΦA spec0 c
      rw [PhiA0_eq]
      iintro ⟨⟨HS, Hg⟩, HT⟩
      isplitl [HS]
      · iapply (scr_any m hO c (Fin.last _)); iexact HS
      iexact Hg)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The program comes to rest with its arguments unchanged. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Hand

end
-- ==== Proof.ExpertsRun.lean ====
/- The experts' tables in range put every block inside its array; from it the frames of the three programs, and that the
   kernel and its reading over the reals are one program. -/
module

public import proofs.«01_k».proof.Proof.ExpertsFrame
public import proofs.«01_k».proof.Proof.ExpertsIdealFrame
public import proofs.«01_k».proof.Proof.Gen.ExpertsRefIdeal.Run
public import proofs.«01_k».proof.Proof.Gen.ExpertsRefIdeal.Read
public import Idealize.ShloMosaic.Lib.Claim
public import Idealize.ShloMosaic.Lib.Bf16Pair
public import Idealize.ShloMosaic.Lib.WordCmp
public import Idealize.ShloMosaic.Lib.Quiescent
public import proofs.«01_k».proof.Defs

@[expose] public section

set_option maxRecDepth 16384

noncomputable section

namespace Cert.Proof.Words
open Idealize.ShloMosaic

/-- A word that is at least zero and below 64, both signed, is a number below 64. -/
theorem lt64 (w : BitVec 32) (h0 : IntOp.cmpi .sge w 0#32 = 1#1) (h1 : IntOp.cmpi .slt w 64#32 = 1#1) : w.toNat < 64 := by
  rw [WordCmp.cmpi_sge_eq, WordCmp.ofBool_decide_eq_one_iff] at h0
  rw [WordCmp.cmpi_slt_eq, WordCmp.ofBool_decide_eq_one_iff] at h1
  have e0 : (0#32 : BitVec 32).toInt = 0 := by decide
  have e1 : (64#32 : BitVec 32).toInt = 64 := by decide
  rw [e0] at h0
  rw [e1] at h1
  have h := (WordCmp.toInt_nonneg_iff_lt_half w).1 h0
  have h2 := WordCmp.toInt_eq_toNat_of_lt_half h
  omega

/-- The smaller of a grid coordinate and one less than a positive word, both signed, is a number at most the coordinate;
    it is the coordinate when that is below the word. -/
theorem minsi_le (i : Nat) (hi : i < 376) (n : BitVec 32) (hn : IntOp.cmpi .sge n 1#32 = 1#1) :
    (Scalar.minsi (BitVec.ofNat 32 i) (Scalar.subi n 1#32)).toNat ≤ i := by
  rw [WordCmp.cmpi_sge_eq, WordCmp.ofBool_decide_eq_one_iff] at hn
  have e1 : (1#32 : BitVec 32).toInt = 1 := by decide
  rw [e1] at hn
  have hn' := (WordCmp.toInt_nonneg_iff_lt_half n).1 (by omega)
  have hn2 := WordCmp.toInt_eq_toNat_of_lt_half hn'
  have hs : (n - 1#32).toNat = n.toNat - 1 := by
    rw [BitVec.toNat_sub]
    have : (1#32 : BitVec 32).toNat = 1 := by decide
    omega
  have hi' : (BitVec.ofNat 32 i).toNat = i := WordCmp.toNat_ofNat_of_lt (by omega)
  have hii : (BitVec.ofNat 32 i).toInt = (i : Int) := WordCmp.toInt_ofNat_of_lt (by omega)
  have hsi : (n - 1#32).toInt = ((n - 1#32).toNat : Int) := WordCmp.toInt_eq_toNat_of_lt_half (by rw [hs]; omega)
  show (if (BitVec.ofNat 32 i).slt (n - 1#32) then BitVec.ofNat 32 i else n - 1#32).toNat ≤ i
  by_cases h : (BitVec.ofNat 32 i).slt (n - 1#32) = true
  · rw [if_pos h, hi']
  · rw [if_neg h]
    rw [BitVec.slt_iff_toInt_lt, hii, hsi] at h
    omega

theorem minsi_eq (i : Nat) (hi : i < 376) (n : BitVec 32) (hn : IntOp.cmpi .sge n 1#32 = 1#1) (h : IntOp.cmpi .slt (BitVec.ofNat 32 i) n = 1#1) :
    (Scalar.minsi (BitVec.ofNat 32 i) (Scalar.subi n 1#32)).toNat = i := by
  rw [WordCmp.cmpi_sge_eq, WordCmp.ofBool_decide_eq_one_iff] at hn
  rw [WordCmp.cmpi_slt_eq, WordCmp.ofBool_decide_eq_one_iff] at h
  have e1 : (1#32 : BitVec 32).toInt = 1 := by decide
  rw [e1] at hn
  have hn' := (WordCmp.toInt_nonneg_iff_lt_half n).1 (by omega)
  have hn2 := WordCmp.toInt_eq_toNat_of_lt_half hn'
  have hs : (n - 1#32).toNat = n.toNat - 1 := by
    rw [BitVec.toNat_sub]
    have : (1#32 : BitVec 32).toNat = 1 := by decide
    omega
  have hi' : (BitVec.ofNat 32 i).toNat = i := WordCmp.toNat_ofNat_of_lt (by omega)
  have hii : (BitVec.ofNat 32 i).toInt = (i : Int) := WordCmp.toInt_ofNat_of_lt (by omega)
  have hsi : (n - 1#32).toInt = ((n - 1#32).toNat : Int) := WordCmp.toInt_eq_toNat_of_lt_half (by rw [hs]; omega)
  rw [hii, hn2] at h
  show (if (BitVec.ofNat 32 i).slt (n - 1#32) then BitVec.ofNat 32 i else n - 1#32).toNat = i
  by_cases h' : (BitVec.ofNat 32 i).slt (n - 1#32) = true
  · rw [if_pos h', hi']
  · rw [if_neg h', hs]
    rw [BitVec.slt_iff_toInt_lt, hii, hsi] at h'
    omega

end Cert.Proof.Words

namespace Cert.Proof.ExpertsClaims

/-- The shapes that the precondition compares over. -/
instance tableFacts : Cert.Pre_tables.Facts := ⟨by decide, by decide⟩

end Cert.Proof.ExpertsClaims

namespace Cert.Experts.Hand

open Idealize.ShloMosaic Idealize.ShloMosaic.TcCoe Idealize.SL.Sem
open Cert.Experts Cert.Experts.Gen

variable {F : FTy → Type} [BitOps F] (m : (ℓ : Loc nD τ sig) → Buf (Elt F) ℓ)

/-- The tables are in range: every expert is one of the 64, and some block is used. -/
def InRange : Prop := (∀ i : S376.Idx, (m (((0 : Dev nD) : Thread nD τ).loc main_arg1) i : BitVec 32).toNat < 64)
  ∧ ∀ i : S1.Idx, IntOp.cmpi .sge (m (((0 : Dev nD) : Thread nD τ).loc main_arg2) i : BitVec 32) 1#32 = 1#1

/-- Tables in range put every block inside its array. -/
theorem ok_of_range (h : InRange m) : Ok m := by
  obtain ⟨hb, hn⟩ := h
  refine ⟨fun i => ?_, fun i => ?_, fun i => ?_, fun i => ?_⟩
  · have hi : (i 0).val < 376 := (i 0).isLt
    have hle := Cert.Proof.Words.minsi_le (i 0).val hi _ (hn ((Rect.unit (s := S1) ![0] S1.size inb_S1_S1_0).emb (Shape.Idx.first (numel1_S1.symm ▸ Nat.one_pos))))
    refine ⟨fun a => ?_, Or.inr (Or.inl (Or.inr ⟨by decide, rfl, Or.inl ⟨?_, ?_⟩⟩))⟩
    · match a with
      | ⟨0, _⟩ =>
        show (_ + 1) * 2048 ≤ 770048
        exact (Nat.mul_le_mul_right _ (Nat.add_le_add_right (hle.trans (Nat.le_pred_of_lt hi)) 1)).trans (by decide)
      | ⟨1, _⟩ => show (0 + 1) * 512 ≤ 512; decide
    · show 2 ∣ _ * 2048
      exact Dvd.dvd.mul_left (by decide) _
    · show 2 ∣ 2048
      decide
  · refine ⟨fun a => ?_, Or.inl rfl⟩
    match a with
    | ⟨0, _⟩ => show (_ + 1) * 1 ≤ 64; rw [Nat.mul_one]; exact hb _
    | ⟨1, _⟩ => show (0 + 1) * 1024 ≤ 1024; decide
    | ⟨2, _⟩ => show (0 + 1) * 256 ≤ 256; decide
  · refine ⟨fun a => ?_, Or.inl rfl⟩
    match a with
    | ⟨0, _⟩ => show (_ + 1) * 1 ≤ 64; rw [Nat.mul_one]; exact hb _
    | ⟨1, _⟩ => show (0 + 1) * 1024 ≤ 1024; decide
    | ⟨2, _⟩ => show (0 + 1) * 256 ≤ 256; decide
  · refine ⟨fun a => ?_, Or.inl rfl⟩
    match a with
    | ⟨0, _⟩ => show (_ + 1) * 1 ≤ 64; rw [Nat.mul_one]; exact hb _
    | ⟨1, _⟩ => show (0 + 1) * 256 ≤ 256; decide
    | ⟨2, _⟩ => show (0 + 1) * 1024 ≤ 1024; decide

end Cert.Experts.Hand

namespace Cert.Proof.ExpertsClaims
open Idealize.ShloMosaic Idealize.ShloMosaic.TcCoe

theorem range_Experts (m) (h : Cert.Pre_Experts m) : Cert.Experts.Hand.InRange m := by
  obtain ⟨h0, h1, h2⟩ := h 0
  exact ⟨fun i => Cert.Proof.Words.lt64 _ (congrFun h0 i) (congrFun h1 i), fun i => congrFun h2 i⟩

end Cert.Proof.ExpertsClaims

namespace Cert.ExpertsIdeal.Hand

open Idealize.ShloMosaic Idealize.ShloMosaic.TcCoe Idealize.SL.Sem
open Cert.ExpertsIdeal Cert.ExpertsIdeal.Gen

variable {F : FTy → Type} [FloatOps F] (m : (ℓ : Loc nD τ sig) → Buf (Elt F) ℓ)

/-- The tables are in range: every expert is one of the 64, and some block is used. -/
def InRange : Prop := (∀ i : S376.Idx, (m (((0 : Dev nD) : Thread nD τ).loc main_arg1) i : BitVec 32).toNat < 64)
  ∧ ∀ i : S1.Idx, IntOp.cmpi .sge (m (((0 : Dev nD) : Thread nD τ).loc main_arg2) i : BitVec 32) 1#32 = 1#1

/-- Tables in range put every block inside its array. -/
theorem ok_of_range (h : InRange m) : Ok m := by
  obtain ⟨hb, hn⟩ := h
  refine ⟨fun i => ?_, fun i => ?_, fun i => ?_, fun i => ?_⟩
  · have hi : (i 0).val < 376 := (i 0).isLt
    have hle := Cert.Proof.Words.minsi_le (i 0).val hi _ (hn ((Rect.unit (s := S1) ![0] S1.size inb_S1_S1_0).emb (Shape.Idx.first (numel1_S1.symm ▸ Nat.one_pos))))
    refine ⟨fun a => ?_, Or.inr (Or.inl (Or.inr ⟨by decide, rfl, Or.inl ⟨?_, ?_⟩⟩))⟩
    · match a with
      | ⟨0, _⟩ =>
        show (_ + 1) * 2048 ≤ 770048
        exact (Nat.mul_le_mul_right _ (Nat.add_le_add_right (hle.trans (Nat.le_pred_of_lt hi)) 1)).trans (by decide)
      | ⟨1, _⟩ => show (0 + 1) * 512 ≤ 512; decide
    · show 2 ∣ _ * 2048
      exact Dvd.dvd.mul_left (by decide) _
    · show 2 ∣ 2048
      decide
  · refine ⟨fun a => ?_, Or.inl rfl⟩
    match a with
    | ⟨0, _⟩ => show (_ + 1) * 1 ≤ 64; rw [Nat.mul_one]; exact hb _
    | ⟨1, _⟩ => show (0 + 1) * 1024 ≤ 1024; decide
    | ⟨2, _⟩ => show (0 + 1) * 256 ≤ 256; decide
  · refine ⟨fun a => ?_, Or.inl rfl⟩
    match a with
    | ⟨0, _⟩ => show (_ + 1) * 1 ≤ 64; rw [Nat.mul_one]; exact hb _
    | ⟨1, _⟩ => show (0 + 1) * 1024 ≤ 1024; decide
    | ⟨2, _⟩ => show (0 + 1) * 256 ≤ 256; decide
  · refine ⟨fun a => ?_, Or.inl rfl⟩
    match a with
    | ⟨0, _⟩ => show (_ + 1) * 1 ≤ 64; rw [Nat.mul_one]; exact hb _
    | ⟨1, _⟩ => show (0 + 1) * 256 ≤ 256; decide
    | ⟨2, _⟩ => show (0 + 1) * 1024 ≤ 1024; decide

end Cert.ExpertsIdeal.Hand

namespace Cert.Proof.ExpertsClaims
open Idealize.ShloMosaic Idealize.ShloMosaic.TcCoe

theorem range_ExpertsIdeal (m) (h : Cert.Pre_ExpertsIdeal m) : Cert.ExpertsIdeal.Hand.InRange m := by
  obtain ⟨h0, h1, h2⟩ := h 0
  exact ⟨fun i => Cert.Proof.Words.lt64 _ (congrFun h0 i) (congrFun h1 i), fun i => congrFun h2 i⟩

end Cert.Proof.ExpertsClaims

namespace Cert.Proof.ExpertsClaims

open Idealize.ShloMosaic Idealize.ShloMosaic.TcCoe Idealize.SL.Sem

theorem frame_kernel : Cert.quiescent_Experts := fun m ρ h => Cert.Experts.Hand.frame m ρ (Cert.Experts.Hand.ok_of_range m (range_Experts m h))
theorem frame_ideal : Cert.quiescent_ExpertsIdeal := fun m ρ h => Cert.ExpertsIdeal.Hand.frame m ρ (Cert.ExpertsIdeal.Hand.ok_of_range m (range_ExpertsIdeal m h))
theorem frame_ref : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

/-- The pairs of rows read as words, and written as words, keep every row. -/
theorem preserves : Cert.preserves_Experts_ExpertsIdeal := ⟨IdealRules.bf16_pair.statement _ _, IdealRules.bf16_pack.statement _⟩

end Cert.Proof.ExpertsClaims

end
-- ==== Proof.Rows.lean ====
/- The row functions that both a kernel and its reference compute: a layer norm of one row, and the gated unit
   x · σ(x) of the shared expert. Everything here is over the extended reals. -/
module

public import Idealize.ShloMosaic.Lib.Pointwise
public import Idealize.ShloMosaic.Lib.Pipeline.Value

@[expose] public section

noncomputable section

namespace Cert.Rows

open Idealize.ShloMosaic

/-- The mean of a row of 1024 numbers. -/
def mean (t : Fin 1024 → EReal) : EReal := Ideal.div (∑ k, t k) (Ideal.ofBits .f32 0x44800000#32)

/-- The layer norm of the row `t` with gain `g` and bias `b`, at lane `l`. -/
def norm (t g b : Fin 1024 → EReal) (l : Fin 1024) : EReal :=
  (t l - mean t) * Ideal.rsqrt (mean (fun k => (t k - mean t) * (t k - mean t)) + Ideal.ofBits .f32 0x3727C5AC#32) * g l + b l

/-- The gated unit: `x` times the logistic function of `x`, in the form `x / (1 + exp (−x))`. -/
def silu (x : EReal) : EReal := Ideal.div x (1 + Ideal.exp (-x))

/-- The shared expert's row before the norm: the residual, the routed sum and the gated product. -/
def sharedSum (x s : Fin 1024 → EReal) (w1 w3 : Fin 1024 → Fin 256 → EReal) (w2 : Fin 256 → Fin 1024 → EReal)
    (l : Fin 1024) : EReal :=
  Ideal.ofBits .f32 0x3FD744FD#32 * x l
    + (s l + ∑ j, silu (∑ k, x k * w1 k j) * (∑ k, x k * w3 k j) * w2 j l)

/-- The output projection's row before the norm: the residual and the three mixers' outputs through their rows of the
    weight. -/
def projSum (x : Fin 1024 → EReal) (a : Fin 384 → EReal) (b : Fin 256 → EReal) (c : Fin 384 → EReal)
    (w : Fin 1024 → Fin 1024 → EReal) (l : Fin 1024) : EReal :=
  Ideal.ofBits .f32 0x3FD744FD#32 * x l
    + ((∑ k, a k * w ⟨k.val, by omega⟩ l + ∑ k, b k * w ⟨384 + k.val, by omega⟩ l) + ∑ k, c k * w ⟨640 + k.val, by omega⟩ l)

/-- A sum over 1024 lanes, cut where the three mixers' outputs meet. -/
theorem sum_three (f : Fin 1024 → EReal) :
    ∑ k, f k = (∑ k : Fin 384, f ⟨k.val, by omega⟩ + ∑ k : Fin 256, f ⟨384 + k.val, by omega⟩)
      + ∑ k : Fin 384, f ⟨640 + k.val, by omega⟩ :=
  (Fin.sum_univ_add (a := 384) (b := 640) f).trans (by
    have h := Fin.sum_univ_add (a := 256) (b := 384) fun k : Fin 640 => f (Fin.natAdd 384 k)
    rw [add_assoc]
    refine congrArg₂ (· + ·) rfl (h.trans (congrArg₂ (· + ·) rfl (Finset.sum_congr rfl fun k _ => congrArg f (Fin.ext ?_))))
    show 384 + (256 + k.val) = 640 + k.val
    omega)

/-- The exponential is never negative. -/
theorem exp_nonneg (x : EReal) : 0 ≤ Ideal.exp x := by
  induction x using EReal.rec with
  | bot => simp
  | top => simp
  | coe r => rw [Ideal.exp_coe]; exact_mod_cast (Real.exp_pos r).le

/-- A product with the reciprocal of `1 + exp y` is the quotient by it. -/
theorem mul_recip (x y : EReal) : x * Ideal.div 1 (1 + Ideal.exp y) = Ideal.div x (1 + Ideal.exp y) := by
  have h : (1 + Ideal.exp y : EReal) ≠ 0 := by
    intro h0
    have : (1 : EReal) ≤ 1 + Ideal.exp y := le_add_of_nonneg_right (exp_nonneg y)
    rw [h0] at this
    exact absurd this (by norm_num)
  rw [Ideal.div, Ideal.div, if_neg h, if_neg h, one_mul]

end Cert.Rows

end
-- ==== Proof.ExpertsPay.lean ====
/- One block of the experts' call: the result of a block's 2048 half rows, element by element, as the gated product of the
   row's 1024 numbers with one expert's three weights. -/
module

public import proofs.«01_k».proof.Proof.Rows
public import proofs.«01_k».proof.Proof.ExpertsIdealFrame
public import Idealize.ShloMosaic.Lib.Bf16Pair

@[expose] public section

set_option maxRecDepth 16384

noncomputable section

namespace Cert.Rows
open Idealize.ShloMosaic

/-- The gated product of a row with one expert's three weights, at lane `l`. -/
def gated (h : Fin 1024 → EReal) (w1 w3 : Fin 1024 → Fin 256 → EReal) (w2 : Fin 256 → Fin 1024 → EReal) (l : Fin 1024) : EReal :=
  ∑ j, silu (∑ k, h k * w1 k j) * (∑ k, h k * w3 k j) * w2 j l

end Cert.Rows

namespace Cert.Rows

/-- A sum over 1024 lanes, cut in the middle. -/
theorem sum_two (f : Fin 1024 → EReal) : ∑ k, f k = ∑ k : Fin 512, f ⟨k.val, by omega⟩ + ∑ k : Fin 512, f ⟨512 + k.val, by omega⟩ :=
  Fin.sum_univ_add (a := 512) (b := 512) f

end Cert.Rows

namespace Cert.ExpertsIdeal.Hand

open Idealize.ShloMosaic Idealize.ShloMosaic.TcCoe
open Cert.ExpertsIdeal Cert.ExpertsIdeal.Gen

/-- The half row that lane `k` of the row over half row `p` is in. -/
def half (p : Fin 2048) (k : Fin 1024) : Fin 2048 := ⟨2 * (p.val / 2) + k.val / 512, by omega⟩
/-- A lane's place in its half row. -/
def lane (k : Fin 1024) : Fin 512 := ⟨k.val % 512, by omega⟩
/-- The lane of the row that place `q` of half row `p` is. -/
def full (p : Fin 2048) (q : Fin 512) : Fin 1024 := ⟨p.val % 2 * 512 + q.val, by omega⟩

theorem pay4_row (X : Vec Ideal S2048x512 .bf16) (W1 W3 : Vec Ideal S1024x256 .bf16) (W2 : Vec Ideal S256x1024 .bf16)
    (p : Fin 2048) (q : Fin 512) :
    k0_pay4 X W1 W3 W2 (ix2 p q)
      = Rows.gated (fun k => X (ix2 (half p k) (lane k))) (fun k j => W1 (ix2 k j)) (fun k j => W3 (ix2 k j)) (fun j k => W2 (ix2 j k)) (full p q) := by
  unfold Rows.gated Rows.silu
  pointwise [k0_pay4]
  simp only [zero_sub]
  have key : ∀ (W : Vec Ideal S1024x256 .bf16) (j : Fin 256),
      ∑ k : Fin 1024, (X (ix2 (half p k) (lane k)) : EReal) * W (ix2 k j)
        = ∑ k : Fin 512, (X (ix2 ⟨2 * (p.val / 2), by omega⟩ k) : EReal) * W (ix2 ⟨k.val, by omega⟩ j)
          + ∑ k : Fin 512, (X (ix2 ⟨2 * (p.val / 2) + 1, by omega⟩ k) : EReal) * W (ix2 ⟨512 + k.val, by omega⟩ j) := fun W j => by
    rw [Rows.sum_two]
    have e0 : ∀ k : Fin 512, half p ⟨k.val, by omega⟩ = ⟨2 * (p.val / 2), by omega⟩ ∧ lane ⟨k.val, by omega⟩ = k := fun k =>
      ⟨Fin.ext (by show 2 * (p.val / 2) + k.val / 512 = 2 * (p.val / 2); omega), Fin.ext (by show k.val % 512 = k.val; omega)⟩
    have e1 : ∀ k : Fin 512, half p ⟨512 + k.val, by omega⟩ = ⟨2 * (p.val / 2) + 1, by omega⟩ ∧ lane ⟨512 + k.val, by omega⟩ = k := fun k =>
      ⟨Fin.ext (by show 2 * (p.val / 2) + (512 + k.val) / 512 = 2 * (p.val / 2) + 1; omega), Fin.ext (by show (512 + k.val) % 512 = k.val; omega)⟩
    simp only [e0, e1]
  simp only [key]
  by_cases h : p.val % 2 = 0
  · rw [if_pos h]
    have e : full p q = ⟨q.val, by omega⟩ := Fin.ext (by show p.val % 2 * 512 + q.val = q.val; omega)
    rw [e]
  · rw [if_neg h]
    have e : full p q = ⟨512 + q.val, by omega⟩ := Fin.ext (by show p.val % 2 * 512 + q.val = 512 + q.val; omega)
    rw [e]

theorem pay1_row (P : Vec Ideal S1x1024x256 .f32) (k : Fin 1024) (j : Fin 256) : k0_pay1 P (ix2 k j) = P (ix3 0 k j) := by
  pointwise [k0_pay1]
theorem pay2_row (P : Vec Ideal S1x1024x256 .f32) (k : Fin 1024) (j : Fin 256) : k0_pay2 P (ix2 k j) = P (ix3 0 k j) := by
  pointwise [k0_pay2]
theorem pay3_row (P : Vec Ideal S1x256x1024 .f32) (j : Fin 256) (k : Fin 1024) : k0_pay3 P (ix2 j k) = P (ix3 0 j k) := by
  pointwise [k0_pay3]
theorem pay5_row (p : Fin 2048) (q : Fin 512) : k0_pay5 (F := Ideal) (ix2 p q) = (0 : EReal) := by
  pointwise [k0_pay5]

end Cert.ExpertsIdeal.Hand

end
-- ==== Proof.ExpertsRef.lean ====
/- The experts' reference, element by element: each half row of the result is the gated product of its block's row with the
   block's expert, or zero past the used blocks. -/
module

public import proofs.«01_k».proof.Proof.ExpertsPay
public import proofs.«01_k».proof.Proof.Gen.ExpertsRefIdeal.Read
public import Idealize.ShloMosaic.Lib.WordCmp
public import Idealize.ShloMosaic.Lib.Pointwise

@[expose] public section

set_option maxRecDepth 16384

noncomputable section

namespace Cert.ExpertsRefIdeal.Hand

open Idealize.ShloMosaic Idealize.ShloMosaic.TcCoe
open Cert.ExpertsRefIdeal Cert.ExpertsRefIdeal.Gen Cert.ExpertsRefIdeal.Read

/-- The gathered weights at block `t`: the weights of the expert that the start index names. -/
theorem gather1 (x : FVec Ideal S64x1024x256 .f32) (idx : IVec S376x1 32) (t : Fin 376) (k : Fin 1024) (j : Fin 256) (e : Fin 64)
    (he : (idx (ix2 t 0)).toInt = (e.val : Int)) :
    Host.gather gather_S64x1024x256_S376x1_S376x1024x256_12_0_n_n_0_1_11024256 x idx (ix3 t k j) = x (ix3 e k j) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    show GatherDims.start gather_S64x1024x256_S376x1_S376x1024x256_12_0_n_n_0_1_11024256 (ix3 t k j) idx (0 : Fin S64x1024x256.rank) + 0 + GatherDims.offCoord gather_S64x1024x256_S376x1_S376x1024x256_12_0_n_n_0_1_11024256 (ix3 t k j) (0 : Fin S64x1024x256.rank) = e.val
    rw [GatherDims.offCoord_eq_zero _ _ _ (show (0 : Fin S64x1024x256.rank) ∉ gather_S64x1024x256_S376x1_S376x1024x256_12_0_n_n_0_1_11024256.sKept by decide)]
    unfold GatherDims.start
    rw [dif_pos (show (0 : Fin S64x1024x256.rank) ∈ gather_S64x1024x256_S376x1_S376x1024x256_12_0_n_n_0_1_11024256.startIndexMap by decide)]
    have hsi : GatherDims.siIdx gather_S64x1024x256_S376x1_S376x1024x256_12_0_n_n_0_1_11024256 (ix3 t k j) ⟨0, by decide⟩ = ix2 t 0 := by
      funext b; refine Fin.ext ?_
      match b with
      | ⟨0, _⟩ => rfl
      | ⟨1, _⟩ => rfl
    show min (idx (GatherDims.siIdx gather_S64x1024x256_S376x1_S376x1024x256_12_0_n_n_0_1_11024256 (ix3 t k j) ⟨0, by decide⟩)).toInt.toNat 63 + 0 + 0 = e.val
    rw [hsi, he]
    omega
  | ⟨1, _⟩ =>
    show GatherDims.start gather_S64x1024x256_S376x1_S376x1024x256_12_0_n_n_0_1_11024256 (ix3 t k j) idx (1 : Fin S64x1024x256.rank) + 0 + GatherDims.offCoord gather_S64x1024x256_S376x1_S376x1024x256_12_0_n_n_0_1_11024256 (ix3 t k j) (1 : Fin S64x1024x256.rank) = k.val
    unfold GatherDims.start
    rw [dif_neg (show (1 : Fin S64x1024x256.rank) ∉ gather_S64x1024x256_S376x1_S376x1024x256_12_0_n_n_0_1_11024256.startIndexMap by decide)]
    unfold GatherDims.offCoord
    rw [dif_pos (show (1 : Fin S64x1024x256.rank) ∈ gather_S64x1024x256_S376x1_S376x1024x256_12_0_n_n_0_1_11024256.sKept by decide)]
    show 0 + 0 + k.val = k.val
    omega
  | ⟨2, _⟩ =>
    show GatherDims.start gather_S64x1024x256_S376x1_S376x1024x256_12_0_n_n_0_1_11024256 (ix3 t k j) idx (2 : Fin S64x1024x256.rank) + 0 + GatherDims.offCoord gather_S64x1024x256_S376x1_S376x1024x256_12_0_n_n_0_1_11024256 (ix3 t k j) (2 : Fin S64x1024x256.rank) = j.val
    unfold GatherDims.start
    rw [dif_neg (show (2 : Fin S64x1024x256.rank) ∉ gather_S64x1024x256_S376x1_S376x1024x256_12_0_n_n_0_1_11024256.startIndexMap by decide)]
    unfold GatherDims.offCoord
    rw [dif_pos (show (2 : Fin S64x1024x256.rank) ∈ gather_S64x1024x256_S376x1_S376x1024x256_12_0_n_n_0_1_11024256.sKept by decide)]
    show 0 + 0 + j.val = j.val
    omega

/-- The gathered weights at block `t`: the weights of the expert that the start index names. -/
theorem gather2 (x : FVec Ideal S64x256x1024 .f32) (idx : IVec S376x1 32) (t : Fin 376) (k : Fin 256) (j : Fin 1024) (e : Fin 64)
    (he : (idx (ix2 t 0)).toInt = (e.val : Int)) :
    Host.gather gather_S64x256x1024_S376x1_S376x256x1024_12_0_n_n_0_1_12561024 x idx (ix3 t k j) = x (ix3 e k j) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    show GatherDims.start gather_S64x256x1024_S376x1_S376x256x1024_12_0_n_n_0_1_12561024 (ix3 t k j) idx (0 : Fin S64x256x1024.rank) + 0 + GatherDims.offCoord gather_S64x256x1024_S376x1_S376x256x1024_12_0_n_n_0_1_12561024 (ix3 t k j) (0 : Fin S64x256x1024.rank) = e.val
    rw [GatherDims.offCoord_eq_zero _ _ _ (show (0 : Fin S64x256x1024.rank) ∉ gather_S64x256x1024_S376x1_S376x256x1024_12_0_n_n_0_1_12561024.sKept by decide)]
    unfold GatherDims.start
    rw [dif_pos (show (0 : Fin S64x256x1024.rank) ∈ gather_S64x256x1024_S376x1_S376x256x1024_12_0_n_n_0_1_12561024.startIndexMap by decide)]
    have hsi : GatherDims.siIdx gather_S64x256x1024_S376x1_S376x256x1024_12_0_n_n_0_1_12561024 (ix3 t k j) ⟨0, by decide⟩ = ix2 t 0 := by
      funext b; refine Fin.ext ?_
      match b with
      | ⟨0, _⟩ => rfl
      | ⟨1, _⟩ => rfl
    show min (idx (GatherDims.siIdx gather_S64x256x1024_S376x1_S376x256x1024_12_0_n_n_0_1_12561024 (ix3 t k j) ⟨0, by decide⟩)).toInt.toNat 63 + 0 + 0 = e.val
    rw [hsi, he]
    omega
  | ⟨1, _⟩ =>
    show GatherDims.start gather_S64x256x1024_S376x1_S376x256x1024_12_0_n_n_0_1_12561024 (ix3 t k j) idx (1 : Fin S64x256x1024.rank) + 0 + GatherDims.offCoord gather_S64x256x1024_S376x1_S376x256x1024_12_0_n_n_0_1_12561024 (ix3 t k j) (1 : Fin S64x256x1024.rank) = k.val
    unfold GatherDims.start
    rw [dif_neg (show (1 : Fin S64x256x1024.rank) ∉ gather_S64x256x1024_S376x1_S376x256x1024_12_0_n_n_0_1_12561024.startIndexMap by decide)]
    unfold GatherDims.offCoord
    rw [dif_pos (show (1 : Fin S64x256x1024.rank) ∈ gather_S64x256x1024_S376x1_S376x256x1024_12_0_n_n_0_1_12561024.sKept by decide)]
    show 0 + 0 + k.val = k.val
    omega
  | ⟨2, _⟩ =>
    show GatherDims.start gather_S64x256x1024_S376x1_S376x256x1024_12_0_n_n_0_1_12561024 (ix3 t k j) idx (2 : Fin S64x256x1024.rank) + 0 + GatherDims.offCoord gather_S64x256x1024_S376x1_S376x256x1024_12_0_n_n_0_1_12561024 (ix3 t k j) (2 : Fin S64x256x1024.rank) = j.val
    unfold GatherDims.start
    rw [dif_neg (show (2 : Fin S64x256x1024.rank) ∉ gather_S64x256x1024_S376x1_S376x256x1024_12_0_n_n_0_1_12561024.startIndexMap by decide)]
    unfold GatherDims.offCoord
    rw [dif_pos (show (2 : Fin S64x256x1024.rank) ∈ gather_S64x256x1024_S376x1_S376x256x1024_12_0_n_n_0_1_12561024.sKept by decide)]
    show 0 + 0 + j.val = j.val
    omega

theorem v1_at (x : FVec Ideal S770048x512 .bf16) (t : Fin 376) (r : Fin 1024) (k : Fin 1024) :
    (val_main_v1 (F := Ideal) x (ix3 t r k) : EReal) = x (ix2 ⟨t.val * 2048 + 2 * r.val + k.val / 512, by omega⟩ ⟨k.val % 512, by omega⟩) := by
  rw [val_main_v1_apply, val_main_v0_apply]
  show x _ = x _
  congr 1
  funext a
  refine Fin.ext ?_
  match a with
  | ⟨0, _⟩ => show ((t.val * 1024 + r.val) * 1024 + k.val) / 512 = t.val * 2048 + 2 * r.val + k.val / 512; omega
  | ⟨1, _⟩ => show ((t.val * 1024 + r.val) * 1024 + k.val) % 512 = k.val % 512; omega

section
variable (be : IVec S376 32) (hb : ∀ i, (be i).toNat < 64)
include hb

theorem neg_at (i) : IntOp.cmpi .slt (be i) 0#32 = 0#1 := by
  have h := hb i
  rw [WordCmp.cmpi_slt_zero, WordCmp.ofBool_decide_eq_zero_iff]
  omega

theorem toInt_at (i) : (be i).toInt = ((be i).toNat : Int) := by
  have h := hb i
  exact WordCmp.toInt_eq_toNat_of_lt_half (by omega)

theorem v6_at (i) : val_main_v6 (F := Ideal) be i = be i := by
  rw [val_main_v6_apply, val_main_v3_apply, val_main_v2_apply, val_main_c_apply, neg_at be hb]
  rfl
theorem v13_at (i) : val_main_v13 (F := Ideal) be i = be i := by
  rw [val_main_v13_apply, val_main_v10_apply, val_main_v9_apply, val_main_c_1_apply, neg_at be hb]
  rfl
theorem v20_at (i) : val_main_v20 (F := Ideal) be i = be i := by
  rw [val_main_v20_apply, val_main_v17_apply, val_main_v16_apply, val_main_c_3_apply, neg_at be hb]
  rfl

theorem v8_at (w : FVec Ideal S64x1024x256 .f32) (t : Fin 376) (k : Fin 1024) (j : Fin 256) :
    (val_main_v8 (F := Ideal) be w (ix3 t k j) : EReal) = w (ix3 ⟨(be (ix1 t)).toNat, hb _⟩ k j) := by
  unfold val_main_v8
  refine gather1 w _ t k j ⟨(be (ix1 t)).toNat, hb _⟩ ?_
  rw [val_main_v7_apply, v6_at be hb, toInt_at be hb]
  exact congrArg (fun i => ((be i).toNat : Int)) (funext fun a => match a with | ⟨0, _⟩ => rfl)
theorem v15_at (w : FVec Ideal S64x1024x256 .f32) (t : Fin 376) (k : Fin 1024) (j : Fin 256) :
    (val_main_v15 (F := Ideal) be w (ix3 t k j) : EReal) = w (ix3 ⟨(be (ix1 t)).toNat, hb _⟩ k j) := by
  unfold val_main_v15
  refine gather1 w _ t k j ⟨(be (ix1 t)).toNat, hb _⟩ ?_
  rw [val_main_v14_apply, v13_at be hb, toInt_at be hb]
  exact congrArg (fun i => ((be i).toNat : Int)) (funext fun a => match a with | ⟨0, _⟩ => rfl)
theorem v22_at (w : FVec Ideal S64x256x1024 .f32) (t : Fin 376) (j : Fin 256) (k : Fin 1024) :
    (val_main_v22 (F := Ideal) be w (ix3 t j k) : EReal) = w (ix3 ⟨(be (ix1 t)).toNat, hb _⟩ j k) := by
  unfold val_main_v22
  refine gather2 w _ t j k ⟨(be (ix1 t)).toNat, hb _⟩ ?_
  rw [val_main_v21_apply, v20_at be hb, toInt_at be hb]
  exact congrArg (fun i => ((be i).toNat : Int)) (funext fun a => match a with | ⟨0, _⟩ => rfl)

/-- A row's product with the first weight of its block's expert. -/
theorem v23_at (x : FVec Ideal S770048x512 .bf16) (w : FVec Ideal S64x1024x256 .f32) (t : Fin 376) (r : Fin 1024) (j : Fin 256) :
    (val_main_v23 (F := Ideal) x be w (ix3 t r j) : EReal)
      = ∑ k : Fin 1024, (x (ix2 ⟨t.val * 2048 + 2 * r.val + k.val / 512, by omega⟩ ⟨k.val % 512, by omega⟩) : EReal) * w (ix3 ⟨(be (ix1 t)).toNat, hb _⟩ k j) := by
  rw [val_main_v23_apply]
  refine Finset.sum_congr rfl fun k _ => ?_
  have el : lidx_main_v23 (ix3 t r j) k = ix3 t r k := funext fun a => match a with | ⟨0, _⟩ => rfl | ⟨1, _⟩ => rfl | ⟨2, _⟩ => rfl
  have er : ridx_main_v23 (ix3 t r j) k = ix3 t k j := funext fun a => match a with | ⟨0, _⟩ => rfl | ⟨1, _⟩ => rfl | ⟨2, _⟩ => rfl
  rw [el, er, v1_at, v8_at be hb]
theorem v24_at (x : FVec Ideal S770048x512 .bf16) (w : FVec Ideal S64x1024x256 .f32) (t : Fin 376) (r : Fin 1024) (j : Fin 256) :
    (val_main_v24 (F := Ideal) x be w (ix3 t r j) : EReal)
      = ∑ k : Fin 1024, (x (ix2 ⟨t.val * 2048 + 2 * r.val + k.val / 512, by omega⟩ ⟨k.val % 512, by omega⟩) : EReal) * w (ix3 ⟨(be (ix1 t)).toNat, hb _⟩ k j) := by
  rw [val_main_v24_apply]
  refine Finset.sum_congr rfl fun k _ => ?_
  have el : lidx_main_v24 (ix3 t r j) k = ix3 t r k := funext fun a => match a with | ⟨0, _⟩ => rfl | ⟨1, _⟩ => rfl | ⟨2, _⟩ => rfl
  have er : ridx_main_v24 (ix3 t r j) k = ix3 t k j := funext fun a => match a with | ⟨0, _⟩ => rfl | ⟨1, _⟩ => rfl | ⟨2, _⟩ => rfl
  rw [el, er, v1_at, v15_at be hb]
end

/-- The gated product of a row, before the third weight. -/
theorem v26_at (x : FVec Ideal S770048x512 .bf16) (be : IVec S376 32) (w1 w3 : FVec Ideal S64x1024x256 .f32) (t : Fin 376) (r : Fin 1024) (j : Fin 256) :
    (val_main_v26 (F := Ideal) x be w1 w3 (ix3 t r j) : EReal)
      = Rows.silu (val_main_v23 (F := Ideal) x be w1 (ix3 t r j)) * val_main_v24 (F := Ideal) x be w3 (ix3 t r j) := by
  unfold Rows.silu
  pointwise [val_main_v26, val_main_v25, val_main_call0_v5, val_main_call0_v4, val_main_call0_v3, val_main_call0_v2, val_main_call0_v1, val_main_call0_v0, val_main_call0_cst, val_main_call0_cst_0]
  simp only [Rows.mul_recip]

theorem v29_at (n : IVec S1 32) (i) : val_main_v29 (F := Ideal) n i = n (ix1 0) := by
  unfold val_main_v29
  show n _ = n _
  congr 1
  funext a
  match a with
  | ⟨0, _⟩ => exact Subsingleton.elim (α := Fin 1) _ _

/-- The whole result, element by element. -/
theorem ref_row (x : FVec Ideal S770048x512 .bf16) (be : IVec S376 32) (hb : ∀ i, (be i).toNat < 64) (n : IVec S1 32)
    (w1 w3 : FVec Ideal S64x1024x256 .f32) (w2 : FVec Ideal S64x256x1024 .f32) (p : Fin 770048) (q : Fin 512) :
    (val_main_v35 (F := Ideal) x be n w1 w3 w2 (ix2 p q) : EReal)
      = if IntOp.cmpi .slt (BitVec.ofNat 32 (p.val / 2048)) (n (ix1 0)) = 1#1 then
          Rows.gated (fun k => x (ix2 ⟨2 * (p.val / 2) + k.val / 512, by omega⟩ ⟨k.val % 512, by omega⟩))
            (fun k j => w1 (ix3 ⟨(be (ix1 ⟨p.val / 2048, by omega⟩)).toNat, hb _⟩ k j))
            (fun k j => w3 (ix3 ⟨(be (ix1 ⟨p.val / 2048, by omega⟩)).toNat, hb _⟩ k j))
            (fun j k => w2 (ix3 ⟨(be (ix1 ⟨p.val / 2048, by omega⟩)).toNat, hb _⟩ j k)) ⟨p.val % 2 * 512 + q.val, by omega⟩
        else 0 := by
  have hi : idx_main_v34 (ix2 p q) = ix3 ⟨p.val / 2048, by omega⟩ ⟨p.val % 2048 / 2, by omega⟩ ⟨p.val % 2 * 512 + q.val, by omega⟩ := funext fun a =>
    Fin.ext (match a with
    | ⟨0, _⟩ => by show (p.val * 512 + q.val) / 1048576 = p.val / 2048; omega
    | ⟨1, _⟩ => by show (p.val * 512 + q.val) / 1024 % 1024 = p.val % 2048 / 2; omega
    | ⟨2, _⟩ => by show (p.val * 512 + q.val) % 1024 = p.val % 2 * 512 + q.val; omega)
  rw [val_main_v35_apply, val_main_v34_apply, hi, val_main_v33_apply, val_main_call1_v1_apply, val_main_v32_apply, val_main_v31_apply,
    val_main_v28_apply, val_main_v30_apply, v29_at]
  have hz : (val_main_call1_v2 (F := Ideal) (ix3 ⟨p.val / 2048, by omega⟩ ⟨p.val % 2048 / 2, by omega⟩ ⟨p.val % 2 * 512 + q.val, by omega⟩) : EReal) = 0 := by
    pointwise [val_main_call1_v2, val_main_call1_v0, val_main_cst]
    show (constant (F := Ideal) S_ FTy.f32 0#32 ix0 : EReal) = 0
    pointwise []
  rw [hz, val_main_v27_apply]
  show (if IntOp.cmpi .slt (BitVec.ofNat 32 (p.val / 2048)) (n (ix1 0)) = 1#1 then _ else (0 : EReal)) = _
  refine if_congr Iff.rfl ?_ rfl
  unfold Rows.gated
  refine Finset.sum_congr rfl fun j _ => ?_
  have el : lidx_main_v27 (ix3 ⟨p.val / 2048, by omega⟩ ⟨p.val % 2048 / 2, by omega⟩ ⟨p.val % 2 * 512 + q.val, by omega⟩) j
      = ix3 ⟨p.val / 2048, by omega⟩ ⟨p.val % 2048 / 2, by omega⟩ j := funext fun a => match a with | ⟨0, _⟩ => rfl | ⟨1, _⟩ => rfl | ⟨2, _⟩ => rfl
  have er : ridx_main_v27 (ix3 ⟨p.val / 2048, by omega⟩ ⟨p.val % 2048 / 2, by omega⟩ ⟨p.val % 2 * 512 + q.val, by omega⟩) j
      = ix3 ⟨p.val / 2048, by omega⟩ j ⟨p.val % 2 * 512 + q.val, by omega⟩ := funext fun a => match a with | ⟨0, _⟩ => rfl | ⟨1, _⟩ => rfl | ⟨2, _⟩ => rfl
  rw [el, er, v26_at, v23_at be hb, v24_at be hb, v22_at be hb]
  have e : ∀ k : Fin 1024, (⟨p.val / 2048 * 2048 + 2 * (p.val % 2048 / 2) + k.val / 512, by omega⟩ : Fin 770048) = ⟨2 * (p.val / 2) + k.val / 512, by omega⟩ :=
    fun k => Fin.ext (by show p.val / 2048 * 2048 + 2 * (p.val % 2048 / 2) + k.val / 512 = 2 * (p.val / 2) + k.val / 512; omega)
  simp only [e]

end Cert.ExpertsRefIdeal.Hand

end
-- ==== Proof.ExpertsValue.lean ====
/- The experts' value claim: the array that the call writes is, element by element, the reference's result. -/
module

public import proofs.«01_k».proof.Proof.ExpertsRun
public import proofs.«01_k».proof.Proof.ExpertsPay
public import proofs.«01_k».proof.Proof.ExpertsRef
public import Idealize.ShloMosaic.Lib.Pipeline.ValueKit

@[expose] public section

set_option maxRecDepth 16384

noncomputable section

namespace Cert.ExpertsIdeal.Hand

open Idealize.ShloMosaic Idealize.ShloMosaic.TcCoe Idealize.SL.Sem
open Idealize.ShloMosaic.Pipeline (Dat)
open Cert.ExpertsIdeal Cert.ExpertsIdeal.Gen

/-- The experts' result of whole arrays, element by element. -/
def G (x : FVec Ideal S770048x512 .bf16) (be : IVec S376 32) (hb : ∀ i, (be i).toNat < 64) (n : IVec S1 32)
    (w1 w3 : FVec Ideal S64x1024x256 .f32) (w2 : FVec Ideal S64x256x1024 .f32) (p : Fin 770048) (q : Fin 512) : EReal :=
  if IntOp.cmpi .slt (BitVec.ofNat 32 (p.val / 2048)) (n (ix1 0)) = 1#1 then
    Rows.gated (fun k => x (ix2 ⟨2 * (p.val / 2) + k.val / 512, by omega⟩ ⟨k.val % 512, by omega⟩))
      (fun k j => w1 (ix3 ⟨(be (ix1 ⟨p.val / 2048, by omega⟩)).toNat, hb _⟩ k j))
      (fun k j => w3 (ix3 ⟨(be (ix1 ⟨p.val / 2048, by omega⟩)).toNat, hb _⟩ k j))
      (fun j k => w2 (ix3 ⟨(be (ix1 ⟨p.val / 2048, by omega⟩)).toNat, hb _⟩ j k)) ⟨p.val % 2 * 512 + q.val, by omega⟩
  else 0

theorem coords_val : ∀ t : Fin grid0.N, (grid0.coords t 0).val = t.val := by decide +kernel
theorem lt376 (t : Fin grid0.N) : t.val < 376 := lt_of_lt_of_eq t.isLt (by decide +kernel)

theorem cond2_eq (i : grid0.Coords) (w : BitVec 32) : k0_cond2 i w = IntOp.cmpi .slt (BitVec.ofNat 32 (i 0).val) w := by
  have h : ∀ b : BitVec 1, Scalar.cmpi .ne (Scalar.extui b : BitVec 32) 0#32 = b := by decide
  exact h _

variable (m : (ℓ : Loc nD τ sig) → Buf (Elt Ideal) ℓ) (ρ : Dev nD → PrngReg)

/-- The experts of the blocks, and the number of used blocks, as the launch finds them. -/
abbrev be (c : Dev nD) : IVec S376 32 := m ((c : Thread nD τ).loc main_arg1)
abbrev nu (c : Dev nD) : IVec S1 32 := m ((c : Thread nD τ).loc main_arg2)

theorem word1_eq (c : Dev nD) : word1 (F := Ideal) c (tbl m 1) = nu m c (ix1 0) := by
  obtain rfl : c = 0 := Subsingleton.elim _ _
  show nu m 0 _ = nu m 0 _
  congr 1
  funext a
  match a with
  | ⟨0, _⟩ => exact Subsingleton.elim (α := Fin 1) _ _

theorem ew_eq (c : Dev nD) (t : Fin grid0.N) : ew m c t = be m c (ix1 ⟨t.val, lt376 t⟩) := by
  obtain rfl : c = 0 := Subsingleton.elim _ _
  unfold ew
  show be m 0 _ = be m 0 _
  congr 1
  funext a
  refine Fin.ext ?_
  match a with
  | ⟨0, _⟩ => show k0_off1 (grid0.coords t) 0 + 0 * 1 = t.val; rw [off1_eq]; rfl

theorem index0 (hO : Ok m) (c : Dev nD) (t : Fin (cfgM m hO).N) :
    ((cfgM m hO).win 0).index t = ![(Scalar.minsi (BitVec.ofNat 32 (grid0.coords t 0).val) (Scalar.subi (word1 (F := Ideal) c (tbl m 1)) 1#32)).toNat, 0] := rfl
theorem index4 (hO : Ok m) (t : Fin (cfgM m hO).N) : ((cfgM m hO).win 4).index t = ![t.val, 0] := by
  show ![(BitVec.ofNat 32 (grid0.coords t 0).val).toNat, 0] = _
  rw [coords_val, WordCmp.toNat_ofNat_of_lt (lt_trans (lt376 t) (by decide))]

variable (hR : InRange m)
include hR

/-- The block of half rows that a used point reads is the point's own. -/
theorem index0_used (c : Dev nD) (t : Fin (cfgM m (ok_of_range m hR)).N) (h : IntOp.cmpi .slt (BitVec.ofNat 32 t.val) (nu m c (ix1 0)) = 1#1) :
    ((cfgM m (ok_of_range m hR)).win 0).index t = ![t.val, 0] := by
  obtain rfl : c = 0 := Subsingleton.elim _ _
  rw [index0 m _ (0 : Dev nD), coords_val, word1_eq]
  exact congrArg (fun v : Nat => (![v, 0] : Fin 2 → Nat)) (Cert.Proof.Words.minsi_eq t.val (lt376 t) _ (hR.2 _) h)

theorem be_lt (c : Dev nD) (i) : (be m c i).toNat < 64 := by
  obtain rfl : c = 0 := Subsingleton.elim _ _
  exact hR.1 i

theorem blk0 (c : Dev nD) (t : Fin (cfgM m (ok_of_range m hR)).N) (h : IntOp.cmpi .slt (BitVec.ofNat 32 t.val) (nu m c (ix1 0)) = 1#1) (r : Fin 2048) (k : Fin 512) :
    iblk m (ok_of_range m hR) c 0 t (ix2 r k) = (m ((c : Thread nD τ).loc main_arg0)) (ix2 ⟨t.val * 2048 + r.val, by have := lt376 t; omega⟩ k) := by
  blk_point [iblk, V, index0_used m hR c t h]

theorem blk1 (c : Dev nD) (t : Fin (cfgM m (ok_of_range m hR)).N) (k : Fin 1024) (j : Fin 256) :
    iblk m (ok_of_range m hR) c 1 t (ix3 0 k j) = (m ((c : Thread nD τ).loc main_arg3)) (ix3 ⟨(be m c (ix1 ⟨t.val, lt376 t⟩)).toNat, be_lt m hR c _⟩ k j) := by
  blk_point [iblk, V, index1 m (ok_of_range m hR) c t, ew_eq]

theorem blk2 (c : Dev nD) (t : Fin (cfgM m (ok_of_range m hR)).N) (k : Fin 1024) (j : Fin 256) :
    iblk m (ok_of_range m hR) c 2 t (ix3 0 k j) = (m ((c : Thread nD τ).loc main_arg4)) (ix3 ⟨(be m c (ix1 ⟨t.val, lt376 t⟩)).toNat, be_lt m hR c _⟩ k j) := by
  blk_point [iblk, V, index2 m (ok_of_range m hR) c t, ew_eq]

theorem blk3 (c : Dev nD) (t : Fin (cfgM m (ok_of_range m hR)).N) (k : Fin 1024) (j : Fin 256) :
    iblk m (ok_of_range m hR) c 3 t (ix3 0 j k) = (m ((c : Thread nD τ).loc main_arg5)) (ix3 ⟨(be m c (ix1 ⟨t.val, lt376 t⟩)).toNat, be_lt m hR c _⟩ j k) := by
  blk_point [iblk, V, index3 m (ok_of_range m hR) c t, ew_eq]

theorem nblk0 : ((cfgM m (ok_of_range m hR)).win 4).nblk (0 : Fin S770048x512.rank) = 376 := by
  have h1 : ((cfgM m (ok_of_range m hR)).win 4).shape.size (0 : Fin S770048x512.rank) = 770048 := rfl
  have h2 : ((cfgM m (ok_of_range m hR)).win 4).size (0 : Fin S770048x512.rank) = 2048 := rfl
  unfold Pipeline.Window.nblk
  rw [h1, h2]
theorem nblk1 : ((cfgM m (ok_of_range m hR)).win 4).nblk (1 : Fin S770048x512.rank) = 1 := by
  have h1 : ((cfgM m (ok_of_range m hR)).win 4).shape.size (1 : Fin S770048x512.rank) = 512 := rfl
  have h2 : ((cfgM m (ok_of_range m hR)).win 4).size (1 : Fin S770048x512.rank) = 512 := rfl
  unfold Pipeline.Window.nblk
  rw [h1, h2]

theorem covers : ((cfgM m (ok_of_range m hR)).win 4).Covers := by
  refine ⟨fun a => by match a with | ⟨0, _⟩ => (show 0 < 2048; decide) | ⟨1, _⟩ => (show 0 < 512; decide), fun β => ?_⟩
  have h0 : (β (0 : Fin S770048x512.rank)).val < 376 := lt_of_lt_of_eq (β (0 : Fin S770048x512.rank)).isLt (nblk0 m hR)
  have h1 : (β (1 : Fin S770048x512.rank)).val < 1 := lt_of_lt_of_eq (β (1 : Fin S770048x512.rank)).isLt (nblk1 m hR)
  refine ⟨⟨(β (0 : Fin S770048x512.rank)).val, lt_of_lt_of_eq h0 (show 376 = grid0.N by decide +kernel)⟩, flush0_4 _ _, fun a => ⟨?_, Or.inl rfl⟩⟩
  rw [index4]
  match a with
  | ⟨0, _⟩ => rfl
  | ⟨1, _⟩ => show 0 = (β (1 : Fin S770048x512.rank)).val; omega

/-- The result array of the arguments that the run finds. -/
def res (c : Dev nD) : FVec Ideal S770048x512 .bf16 := fun i => G (m ((c : Thread nD τ).loc main_arg0)) (be m c) (be_lt m hR c) (nu m c)
  (m ((c : Thread nD τ).loc main_arg3)) (m ((c : Thread nD τ).loc main_arg4)) (m ((c : Thread nD τ).loc main_arg5)) (i 0) (i 1)

/-- After the run the result array is `res`. -/
theorem final (c : Dev nD) : (dats m (ok_of_range m hR) 0 c).arrAt 4 (cfgM m (ok_of_range m hR)).N
    = res m hR c := by
  refine (dats m (ok_of_range m hR) 0 c).arrAt_eq_of_covers 4 _ (covers m hR) fun t hf y => ?_
  blk_simp
  rw [after0_4]
  obtain ⟨r, q, rfl⟩ : ∃ (r : Fin 2048) (q : Fin 512), y = ix2 r q :=
    ⟨y (0 : Fin S2048x512.rank), y (1 : Fin S2048x512.rank), funext fun a => match a with | ⟨0, _⟩ => rfl | ⟨1, _⟩ => rfl⟩
  have ht := lt376 t
  have e : (((cfgM m (ok_of_range m hR)).win 4).blk t).view.emb (ix2 r q) = ix2 ⟨t.val * 2048 + r.val, by omega⟩ q := by
    blk_ext [index4 m (ok_of_range m hR) t]
  refine Eq.trans ?_ (congrArg (res m hR c) e).symm
  have et : (t.val * 2048 + r.val) / 2048 = t.val := by omega
  show out m (ok_of_range m hR) c t (ix2 r q) = G _ _ _ _ _ _ _ ⟨t.val * 2048 + r.val, by omega⟩ q
  unfold out G
  rw [cond2_eq, coords_val, word1_eq]
  simp only [et]
  by_cases h : IntOp.cmpi .slt (BitVec.ofNat 32 t.val) (nu m c (ix1 0)) = 1#1
  · rw [if_pos h, if_pos h]
    refine (pay4_row _ _ _ _ r q).trans ?_
    have eh : ∀ k : Fin 1024, (⟨t.val * 2048 + (half r k).val, by omega⟩ : Fin 770048) = ⟨2 * ((t.val * 2048 + r.val) / 2) + k.val / 512, by omega⟩ :=
      fun k => Fin.ext (by show t.val * 2048 + (2 * (r.val / 2) + k.val / 512) = 2 * ((t.val * 2048 + r.val) / 2) + k.val / 512; omega)
    have ef : full r q = ⟨(t.val * 2048 + r.val) % 2 * 512 + q.val, by omega⟩ :=
      Fin.ext (by show r.val % 2 * 512 + q.val = (t.val * 2048 + r.val) % 2 * 512 + q.val; omega)
    exact congr (congr (congr (congr (congrArg Rows.gated (funext fun k =>
        (blk0 m hR c t h (half r k) (lane k)).trans (congrArg (fun i => (m ((c : Thread nD τ).loc main_arg0)) (ix2 i (lane k))) (eh k))))
      (funext fun k => funext fun j => (pay1_row _ k j).trans (blk1 m hR c t k j)))
      (funext fun k => funext fun j => (pay2_row _ k j).trans (blk2 m hR c t k j)))
      (funext fun j => funext fun k => (pay3_row _ j k).trans (blk3 m hR c t k j))) ef
  · rw [if_neg h, if_neg h]
    exact pay5_row r q

/-- The run, with the result array named and the arguments unchanged. -/
theorem run_value : θ_run defs (onTc (τ := τ) (main (F := Ideal))) ⟨m, fun _ => 0, ρ⟩ (fun r => ∀ c : Dev nD,
      r.2.mem ((c.tc : Thread nD τ).loc main_v0) = res m hR c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 4).trans (final m hR c), h.2 c⟩)
    (θ_run_and (run_main m ρ (ok_of_range m hR)) (unchanged m ρ (ok_of_range m hR)))

end Cert.ExpertsIdeal.Hand

namespace Cert.Proof.ExpertsClaims

open Idealize.ShloMosaic Idealize.ShloMosaic.TcCoe Idealize.SL.Sem

/-- At `Ideal` the kernel's result array and the reference's agree. -/
theorem algebraic : Cert.algebraic_ExpertsIdeal_ExpertsRefIdeal := by
  pair_intro
  · run_from Cert.ExpertsIdeal.Hand.run_value m g (range_ExpertsIdeal m hpre)
  · run_from Cert.ExpertsRefIdeal.Value.run m' g'
    funext j
    obtain ⟨p, q, rfl⟩ : ∃ (p : Fin 770048) (q : Fin 512), j = ix2 p q := ⟨j 0, j 1, by ext a; fin_cases a <;> rfl⟩
    have E := (congrFun (Cert.ExpertsRefIdeal.Read.val_main_v35_eq (F := Ideal) (m ((c.tc : Thread Cert.ExpertsIdeal.nD Cert.ExpertsIdeal.τ).loc Cert.ExpertsIdeal.main_arg0))
      (Cert.ExpertsIdeal.Hand.be m c) (Cert.ExpertsIdeal.Hand.nu m c) (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) (ix2 p q))
    have R := (Cert.ExpertsRefIdeal.Hand.ref_row (m ((c.tc : Thread Cert.ExpertsIdeal.nD Cert.ExpertsIdeal.τ).loc Cert.ExpertsIdeal.main_arg0)) (Cert.ExpertsIdeal.Hand.be m c) (Cert.ExpertsIdeal.Hand.be_lt m (range_ExpertsIdeal m hpre) c) (Cert.ExpertsIdeal.Hand.nu m c) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) p q)
    refine E.trans ?_
    exact R

end Cert.Proof.ExpertsClaims

end
-- ==== Proof.InProj.lean ====
/- The input projection of the dilated and the sparse mixer's columns: a product of the layer's input with columns of the
   weight that the host lays side by side in the kernel's order. -/
module

public import proofs.«01_k».proof.Proof.Rows
public import proofs.«01_k».proof.Proof.Gen.InProjIdeal.Value
public import Idealize.ShloMosaic.Lib.Pipeline.ValueKit
public import Idealize.ShloMosaic.Lib.Claim
public import proofs.«01_k».proof.Defs
public import proofs.«01_k».proof.Proof.Gen.InProj.Frame
public import Idealize.ShloMosaic.Lib.Quiescent
public import Idealize.ShloMosaic.Lib.StableHlo.RunRead
public import proofs.«01_k».proof.Proof.Gen.InProjRefIdeal.Run
public import proofs.«01_k».proof.Proof.Gen.InProjRefIdeal.Read

@[expose] public section

set_option maxRecDepth 16384

noncomputable section

namespace Cert.InProjIdeal.Hand

open Idealize.ShloMosaic Idealize.ShloMosaic.TcCoe Idealize.SL.Sem
open Idealize.ShloMosaic.Pipeline (Dat)
open Cert.InProjIdeal Cert.InProjIdeal.Gen

/-- Lane `l` of the kernel's order of the columns: the indexer's queries, the sparse mixer's three, the indexer's key
    twice, the dilated mixer's three. -/
def sel (w : Fin 2920 → EReal) (l : Fin 2560) : EReal :=
  if h0 : l.val < 512 then w ⟨1920 + l.val, by omega⟩
  else if h1 : l.val - 512 < 768 then w ⟨1152 + (l.val - 512), by omega⟩
  else if h2 : l.val - 512 - 768 < 64 then w ⟨2432 + (l.val - 512 - 768), by omega⟩
  else if h3 : l.val - 512 - 768 - 64 < 64 then w ⟨2432 + (l.val - 512 - 768 - 64), by omega⟩
  else w ⟨l.val - 512 - 768 - 64 - 64, by omega⟩

/-- Choosing columns and then multiplying is multiplying and then choosing. -/
theorem sum_sel (x : Fin 1024 → EReal) (w : Fin 1024 → Fin 2920 → EReal) (l : Fin 2560) :
    ∑ k, x k * sel (w k) l = sel (fun j => ∑ k, x k * w k j) l := by
  unfold sel
  split_ifs <;> rfl

/-- One block of the product. -/
theorem pay_row (P0 : Vec Ideal S512x1024 .f32) (P1 : Vec Ideal S1024x2560 .bf16) (r : Fin 512) (l : Fin 2560) :
    (k0_pay1 P0 P1 (ix2 r l) : EReal) = ∑ k, P0 (ix2 r k) * P1 (ix2 k l) := by
  pointwise [k0_pay1]

section Host
variable (σ : Valuation τ sig (Elt Ideal))

/-- The columns side by side, before they are rounded. -/
theorem v5_eq : (StableHlo.after hostOps0 σ (Proc.devRef .tc main_v5) : FVec Ideal S1024x2560 .f32)
    = concatenate S1024x2560 1 [⟨S1024x512, (extractStridedSlice S1024x512 ![0, 1920] (σ (Proc.devRef .tc main_arg1) : FVec Ideal S1024x2920 .f32) slices_S1024x2920_S1024x512_0_1920 : FVec Ideal S1024x512 .f32)⟩,
        ⟨S1024x768, (extractStridedSlice S1024x768 ![0, 1152] (σ (Proc.devRef .tc main_arg1) : FVec Ideal S1024x2920 .f32) slices_S1024x2920_S1024x768_0_1152 : FVec Ideal S1024x768 .f32)⟩,
        ⟨S1024x64, (extractStridedSlice S1024x64 ![0, 2432] (σ (Proc.devRef .tc main_arg1) : FVec Ideal S1024x2920 .f32) slices_S1024x2920_S1024x64_0_2432 : FVec Ideal S1024x64 .f32)⟩,
        ⟨S1024x64, (extractStridedSlice S1024x64 ![0, 2432] (σ (Proc.devRef .tc main_arg1) : FVec Ideal S1024x2920 .f32) slices_S1024x2920_S1024x64_0_2432 : FVec Ideal S1024x64 .f32)⟩,
        ⟨S1024x1152, (extractStridedSlice S1024x1152 ![0, 0] (σ (Proc.devRef .tc main_arg1) : FVec Ideal S1024x2920 .f32) slices_S1024x2920_S1024x1152_0_0 : FVec Ideal S1024x1152 .f32)⟩]
        concatenates_S1024x512_S1024x768_S1024x64_S1024x64_S1024x1152_S1024x2560_d1 := by
  have e0 : StableHlo.upto hostOps0 σ 5 (Proc.devRef .tc main_v2) = (extractStridedSlice S1024x512 ![0, 1920] (σ (Proc.devRef .tc main_arg1) : FVec Ideal S1024x2920 .f32) slices_S1024x2920_S1024x512_0_1920 : FVec Ideal S1024x512 .f32) := by after_reads_simp
  have e1 : StableHlo.upto hostOps0 σ 5 (Proc.devRef .tc main_v3) = (extractStridedSlice S1024x768 ![0, 1152] (σ (Proc.devRef .tc main_arg1) : FVec Ideal S1024x2920 .f32) slices_S1024x2920_S1024x768_0_1152 : FVec Ideal S1024x768 .f32) := by after_reads_simp
  have e2 : StableHlo.upto hostOps0 σ 5 (Proc.devRef .tc main_v1) = (extractStridedSlice S1024x64 ![0, 2432] (σ (Proc.devRef .tc main_arg1) : FVec Ideal S1024x2920 .f32) slices_S1024x2920_S1024x64_0_2432 : FVec Ideal S1024x64 .f32) := by after_reads_simp
  have e4 : StableHlo.upto hostOps0 σ 5 (Proc.devRef .tc main_v4) = (extractStridedSlice S1024x1152 ![0, 0] (σ (Proc.devRef .tc main_arg1) : FVec Ideal S1024x2920 .f32) slices_S1024x2920_S1024x1152_0_0 : FVec Ideal S1024x1152 .f32) := by after_reads_simp
  rw [← e0, ← e1, ← e2, ← e4]
  exact (StableHlo.after_last_write (i := 5) [main_v6, main_cst, main_v7, main_v8, main_cst_0, main_v9, main_v10, main_v11, main_v12, main_v13, main_v14] rfl rfl (by decide) σ).trans (StableHlo.nary_result _ _ _ _ _ _)

/-- The kernel's weight at an entry. -/
theorem v13_at (k : Fin 1024) (l : Fin 2560) : (StableHlo.after hostOps0 σ (Proc.devRef .tc main_v13) : FVec Ideal S1024x2560 .bf16) (ix2 k l)
    = sel (fun j => (σ (Proc.devRef .tc main_arg1) : FVec Ideal S1024x2920 .f32) (ix2 k j)) l := by
  have e : (StableHlo.after hostOps0 σ (Proc.devRef .tc main_v13) : FVec Ideal S1024x2560 .bf16)
      = (truncf .bf16 (StableHlo.after hostOps0 σ (Proc.devRef .tc main_v5) : FVec Ideal S1024x2560 .f32) bitsLt_bf16_f32 : FVec Ideal S1024x2560 .bf16) := by
    after_reads_simp
  rw [e, v5_eq]
  unfold sel
  pointwise
  try rfl

end Host

variable (m : (ℓ : Loc nD τ sig) → Buf (Elt Ideal) ℓ)

/-- Every window's block index at a point of the grid. -/
theorem idx : ∀ t : Fin cfg0.N, win0_0.index t = ![t.val, 0] ∧ win0_1.index t = ![0, 0] ∧ win0_2.index t = ![t.val, 0] :=
  (by decide +kernel : ∀ t : Fin grid0.N, _)

/-- Row `i` of the flattened arrays, as a batch and a position. -/
def bat (i : Fin 32768) : Fin 16 := ⟨i.val / 2048, by omega⟩
def pos (i : Fin 32768) : Fin 2048 := ⟨i.val % 2048, by omega⟩

/-- The projection of whole arrays, entry by entry. -/
def G (x : FVec Ideal S16x2048x1024 .f32) (w : FVec Ideal S1024x2920 .f32) : FVec Ideal S32768x2560 .bf16 := fun i =>
  sel (fun j => ∑ k, x (ix3 (bat (i 0)) (pos (i 0)) k) * w (ix2 k j)) (i 1)

/-- The array row that row `r` of the block at point `t` is. -/
def row (t : Fin cfg0.N) (r : Fin 512) : Fin 32768 := ⟨t.val * 512 + r.val, by
  have h : t.val < 64 := lt_of_lt_of_eq t.isLt N_0
  omega⟩

theorem blk0 (c : Dev nD) (t : Fin cfg0.N) (r : Fin 512) (k : Fin 1024) :
    iblk m c 0 t (ix2 r k) = (m ((c : Thread nD τ).loc main_arg0)) (ix3 (bat (row t r)) (pos (row t r)) k) := by
  blk_point [iblk, V, idx t, row, bat, pos]

theorem blk1 (c : Dev nD) (t : Fin cfg0.N) (k : Fin 1024) (l : Fin 2560) :
    iblk m c 1 t (ix2 k l) = sel (fun j => (m ((c : Thread nD τ).loc main_arg1)) (ix2 k j)) l := by
  refine Eq.trans ?_ (v13_at (fun b => m (c, b)) k l)
  have e : ((cfg0.win 1).blk t).view.emb (ix2 k l) = ix2 k l := by
    blk_ext [idx t]
  exact congrArg (V m c main_v13) e

theorem hz : (![0, 0] : Fin 2 → Nat) = fun _ => 0 := funext fun a => by fin_cases a <;> rfl

/-- After the run the result array is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  obtain ⟨r, l, rfl⟩ : ∃ (r : Fin 512) (l : Fin 2560), y = ix2 r l := ⟨y 0, y 1, by ext a; fin_cases a <;> rfl⟩
  rw [View.ld_unit_zero hz, View.ld_unit_zero hz, View.canon_unit_zero hz]
  refine (pay_row _ _ r l).trans ?_
  simp only [blk0, blk1]
  rw [sum_sel]
  have e : ((cfg0.win 2).blk t).view.emb (ix2 r l) = ix2 (row t r) l := by
    blk_ext [idx t, row]
  exact (congrArg (G _ _) e).symm

end Cert.InProjIdeal.Hand

namespace Cert.InProjRefIdeal.Hand
open Idealize.ShloMosaic Cert.InProjRefIdeal Cert.InProjRefIdeal.Read

/-- The reference's result, entry by entry. -/
theorem ref_at (x : FVec Ideal S16x2048x1024 .f32) (w : FVec Ideal S1024x2920 .f32) (r : Fin 32768) (l : Fin 2560) :
    (val_main_v7 (F := Ideal) x w (ix2 r l) : EReal) = Cert.InProjIdeal.Hand.G x w (ix2 r l) := by
  unfold Cert.InProjIdeal.Hand.G Cert.InProjIdeal.Hand.sel
  pointwise [val_main_v7, val_main_v6, val_main_v5, val_main_v4, val_main_v3, val_main_v2, val_main_v1, val_main_v0]
  try rfl

end Cert.InProjRefIdeal.Hand

namespace Cert.Proof.InProjClaims

open Idealize.ShloMosaic Idealize.ShloMosaic.TcCoe Idealize.SL.Sem

theorem frame_kernel : Cert.quiescent_InProj := fun m ρ _ => Cert.InProj.Gen.frame m ρ
theorem frame_ideal : Cert.quiescent_InProjIdeal := fun m ρ _ => Cert.InProjIdeal.Gen.frame m ρ
theorem frame_ref : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- At `Ideal` the kernel's result array and the reference's agree. -/
theorem algebraic : Cert.algebraic_InProjIdeal_InProjRefIdeal := by
  pair_intro
  · run_from Cert.InProjIdeal.Value.run_blocks m g
  · run_from Cert.InProjRefIdeal.Value.run m' g'
    rw [Cert.InProjIdeal.Hand.final m c]
    funext j
    obtain ⟨r, l, rfl⟩ : ∃ (r : Fin 32768) (l : Fin 2560), j = ix2 r l := ⟨j 0, j 1, by ext a; fin_cases a <;> rfl⟩
    rw [Cert.InProjRefIdeal.Read.val_main_v7_eq]
    exact Cert.InProjRefIdeal.Hand.ref_at _ _ r l

end Cert.Proof.InProjClaims

end
-- ==== Proof.MlaFrames.lean ====
module

public import proofs.«01_k».proof.Defs
public import proofs.«01_k».proof.Proof.Gen.Mla.Frame
public import proofs.«01_k».proof.Proof.Gen.MlaIdeal.Frame
public import proofs.«01_k».proof.Proof.Gen.MlaRefIdeal.Run
public import Idealize.ShloMosaic.Lib.Quiescent

@[expose] public section

set_option maxRecDepth 16384

noncomputable section

namespace Cert.Proof.MlaFrames

open Idealize.ShloMosaic Idealize.ShloMosaic.TcCoe Idealize.SL.Sem

theorem frame_kernel : Cert.quiescent_Mla := fun m ρ _ => Cert.Mla.Gen.frame m ρ
theorem frame_ideal : Cert.quiescent_MlaIdeal := fun m ρ _ => Cert.MlaIdeal.Gen.frame m ρ
theorem frame_ref : Cert.quiescent_MlaRefIdeal := fun m ρ _ =>
  (θ_run Cert.MlaRefIdeal.defs _ _).mono (fun r h => ⟨fun c => (h c).2,
      Idealize.ShloMosaic.sem_eq_zero_of_no_sems (by decide) r.2⟩)
    (Cert.MlaRefIdeal.Value.run (F := Ideal) m ρ)

end Cert.Proof.MlaFrames

end
-- ==== Proof.MlaRun.lean ====
/- The run of the latent attention's program, with what its last call leaves in the result array. -/
module

public import proofs.«01_k».proof.Proof.Gen.MlaIdeal.Frame

@[expose] public section

set_option maxRecDepth 16384

noncomputable section

namespace Cert.MlaIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlaIdeal Cert.MlaIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

-- the library theorem's implicit arguments are found by unifying its conclusion with this one
set_option backward.isDefEq.respectTransparency.types false in
/-- The program runs, its result array is what the last call leaves, and its arguments are unchanged. -/
theorem run : θ_run defs (onTc (τ := τ) (main (F := F))) ⟨m, fun _ => 0, ρ⟩ (fun r => ∀ c : Dev nD,
      r.2.mem ((c.tc : Thread nD τ).loc main_v65) = (dat3 (V11 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v65 (by decide))).trans (W12_arr m ρ c 4),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.MlaIdeal.Hand

end
-- ==== Proof.MlaRows.lean ====
/- The row functions of the latent attention that the kernel computes, and the equation of its blocked softmax with the
   reference's whole one. Everything here is over the extended reals. -/
module

public import Idealize.ShloMosaic.Lib.Pointwise
public import Idealize.ShloMosaic.Lib.Pipeline.Value

@[expose] public section

noncomputable section

namespace Cert.MlaRows

open Idealize.ShloMosaic

/-- A finite number. -/
def Re (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Re.coe (r : ℝ) : Re (r : EReal) := ⟨r, rfl⟩

theorem Re.zero : Re 0 := ⟨0, rfl⟩

theorem Re.one : Re 1 := ⟨1, rfl⟩

theorem Re.add {x y : EReal} (hx : Re x) (hy : Re y) : Re (x + y) := by
  obtain ⟨a, rfl⟩ := hx; obtain ⟨b, rfl⟩ := hy; exact ⟨a + b, by push_cast; rfl⟩

theorem Re.mul {x y : EReal} (hx : Re x) (hy : Re y) : Re (x * y) := by
  obtain ⟨a, rfl⟩ := hx; obtain ⟨b, rfl⟩ := hy; exact ⟨a * b, by push_cast; rfl⟩

theorem Re.neg {x : EReal} (hx : Re x) : Re (-x) := by
  obtain ⟨a, rfl⟩ := hx; exact ⟨-a, by push_cast; rfl⟩

theorem Re.sub {x y : EReal} (hx : Re x) (hy : Re y) : Re (x - y) := by
  obtain ⟨a, rfl⟩ := hx; obtain ⟨b, rfl⟩ := hy; exact ⟨a - b, by push_cast; rfl⟩

theorem Re.sum {ι : Type} {s : Finset ι} {f : ι → EReal} (h : ∀ i, Re (f i)) : Re (∑ i ∈ s, f i) := by
  choose g hg using h
  exact ⟨∑ i ∈ s, g i, by rw [Finset.sum_congr rfl fun i _ => hg i, coe_sum]⟩

theorem Re.ite {p : Prop} [Decidable p] {x y : EReal} (hx : Re x) (hy : Re y) : Re (if p then x else y) := by
  split_ifs
  · exact hx
  · exact hy

theorem Re.cos {x : EReal} (hx : Re x) : Re (Ideal.cos x) := by
  obtain ⟨a, rfl⟩ := hx; exact ⟨Real.cos a, by simp⟩

theorem Re.sin {x : EReal} (hx : Re x) : Re (Ideal.sin x) := by
  obtain ⟨a, rfl⟩ := hx; exact ⟨Real.sin a, by simp⟩

/-- The root mean square norm of the row `t` of `n` numbers with gain `g`, at lane `l`; `d` is the number `n`. -/
def rms {n : ℕ} (d : EReal) (t g : Fin n → EReal) (l : Fin n) : EReal :=
  t l * Ideal.rsqrt (Ideal.div (∑ k, t k * t k) d + Ideal.ofBits .f32 0x358637BD#32) * g l

/-- The number added under the root is positive. -/
theorem eps_pos : ∃ E : ℝ, 0 < E ∧ Ideal.ofBits .f32 0x358637BD#32 = (E : EReal) :=
  ⟨8796093 / 2 ^ 43, by positivity, by simp [Ideal.ofBits, Ideal.ieee, -EReal.coe_mul]; norm_num⟩

theorem width_q : Ideal.ofBits .f32 0x43800000#32 = ((256 : ℝ) : EReal) := by
  simp [Ideal.ofBits, Ideal.ieee, -EReal.coe_mul]; norm_num

theorem width_kv : Ideal.ofBits .f32 0x43000000#32 = ((128 : ℝ) : EReal) := by
  simp [Ideal.ofBits, Ideal.ieee, -EReal.coe_mul]; norm_num

/-- The logits' scale is finite. -/
theorem scale_fin : Re (Ideal.ofBits .f32 0x3DD105EC#32) := by
  simp only [Ideal.ofBits, Ideal.ieee]
  norm_num
  exact ⟨_, rfl⟩

/-- The norm of a row of finite numbers is finite. -/
theorem Re.rms {n : ℕ} {d : EReal} {t g : Fin n → EReal} (D : ℝ) (hD : 0 < D) (hd : d = (D : EReal)) (ht : ∀ k, Re (t k)) (hg : ∀ k, Re (g k))
    (l : Fin n) : Re (MlaRows.rms d t g l) := by
  choose t' h' using ht
  obtain ⟨E, hE, he⟩ := eps_pos
  have h0 : (∑ k, t k * t k) = ((∑ k, t' k * t' k : ℝ) : EReal) := by
    rw [coe_sum]; simp only [h', EReal.coe_mul]
  have hs : 0 ≤ ∑ k, t' k * t' k := Finset.sum_nonneg fun k _ => mul_self_nonneg _
  unfold MlaRows.rms
  rw [h0, hd, Ideal.div_coe hD.ne', he]
  have hl : Re (t l) := ⟨_, h' l⟩
  refine (hl.mul ?_).mul (hg l)
  have hp : 0 < (∑ k, t' k * t' k) * (1 / D) + E := by positivity
  have e : ((∑ k, t' k * t' k : ℝ) : EReal) * ((1 / D : ℝ) : EReal) + (E : EReal) = (((∑ k, t' k * t' k) * (1 / D) + E : ℝ) : EReal) := by
    push_cast; rfl
  rw [e, Ideal.rsqrt_coe, if_neg (not_lt.2 hp.le), if_neg hp.ne']
  exact ⟨_, rfl⟩

/-- A row of 128 lanes turned: each lane times `c`, plus the lane 16 before times `s1`, plus the lane 16 after times `s2`. -/
def turn (t c s1 s2 : Fin 128 → EReal) (l : Fin 128) : EReal :=
  t l * c l + t ⟨(l.val + 128 - 16) % 128, Nat.mod_lt _ (by omega)⟩ * s1 l
    + t ⟨(l.val + 128 - 112) % 128, Nat.mod_lt _ (by omega)⟩ * s2 l

/-- The largest of a row. -/
def top {n : ℕ} (f : Fin n → EReal) : EReal := Finset.univ.fold max (Ideal.ofBits .f32 0xFF800000#32) f

/-- One attention row: the values weighted by the exponentials of the logits less their largest, over the weights' sum. -/
def soft {n : ℕ} (f v : Fin n → EReal) : EReal :=
  Ideal.div (∑ t, Ideal.exp (f t - top f) * v t) (∑ t, Ideal.exp (f t - top f))

theorem neg_inf : Ideal.ofBits .f32 0xFF800000#32 = ⊥ := by
  simp [Ideal.ofBits, Ideal.ieee]

theorem top_eq {n : ℕ} (f : Fin n → EReal) : top f = Finset.univ.sup f := by
  unfold top; rw [neg_inf]; rfl

/-- The logits after the query's position `s` are minus infinity. -/
def cut {N : ℕ} (s : ℕ) (σ : Fin N → EReal) (t : Fin N) : EReal := if t.val ≤ s then σ t else ⊥

/-- The row over the first `n` keys, `n` past the query's position, is the row over all of them, with the weights divided
    one by one. -/
theorem soft_cut {n m : ℕ} (s : ℕ) (hs : s < n) (σ v : Fin (n + m) → EReal) (hσ : ∀ t, Re (σ t)) (hv : ∀ t, Re (v t)) :
    soft (fun t : Fin n => cut s σ (Fin.castAdd m t)) (fun t => v (Fin.castAdd m t))
      = ∑ t, v t * Ideal.div (Ideal.exp (cut s σ t - max (Ideal.ofBits .f32 0xFF800000#32) (top (cut s σ))))
          (∑ t, Ideal.exp (cut s σ t - max (Ideal.ofBits .f32 0xFF800000#32) (top (cut s σ)))) := by
  choose σ' hσ' using hσ
  choose v' hv' using hv
  have htop : top (fun t : Fin n => cut s σ (Fin.castAdd m t)) = top (cut s σ) := by
    rw [top_eq, top_eq]
    refine le_antisymm (Finset.sup_le fun t _ => Finset.le_sup (f := cut s σ) (Finset.mem_univ _)) (Finset.sup_le fun t _ => ?_)
    by_cases h : t.val < n
    · exact Finset.le_sup (f := fun t : Fin n => cut s σ (Fin.castAdd m t)) (Finset.mem_univ (⟨t.val, h⟩ : Fin n))
    · have : cut s σ t = ⊥ := if_neg (by omega)
      rw [this]; exact bot_le
  obtain ⟨M, hM⟩ : ∃ M : ℝ, top (cut s σ) = (M : EReal) := by
    have h0 : (σ' ⟨0, by omega⟩ : EReal) ≤ top (cut s σ) := by
      rw [top_eq]
      refine le_trans (le_of_eq ?_) (Finset.le_sup (f := cut s σ) (Finset.mem_univ (⟨0, by omega⟩ : Fin (n + m))))
      rw [← hσ']; exact (if_pos (Nat.zero_le s)).symm
    obtain ⟨t, -, ht⟩ := Finset.exists_mem_eq_sup (Finset.univ : Finset (Fin (n + m))) ⟨⟨0, by omega⟩, Finset.mem_univ _⟩ (cut s σ)
    rw [top_eq, ht] at h0 ⊢
    unfold cut at h0 ⊢
    split_ifs at h0 ⊢
    · exact ⟨_, hσ' t⟩
    · exact absurd h0 (not_le.2 (EReal.bot_lt_coe _))
  have hmax : max (Ideal.ofBits .f32 0xFF800000#32) (top (cut s σ)) = (M : EReal) := by
    rw [neg_inf, hM]; exact max_eq_right bot_le
  have hp : ∀ t, Ideal.exp (cut s σ t - (M : EReal)) = ((if t.val ≤ s then Real.exp (σ' t - M) else 0 : ℝ) : EReal) := by
    intro t
    unfold cut
    split_ifs
    · rw [hσ' t, ← EReal.coe_sub, Ideal.exp_coe]
    · rw [EReal.bot_sub, Ideal.exp_bot]; rfl
  have hl : 0 < ∑ t : Fin (n + m), (if t.val ≤ s then Real.exp (σ' t - M) else 0 : ℝ) := by
    refine Finset.sum_pos' (fun t _ => ?_) ⟨⟨0, by omega⟩, Finset.mem_univ _, ?_⟩
    · split_ifs
      · exact (Real.exp_pos _).le
      · exact le_rfl
    · rw [if_pos (Nat.zero_le s)]; exact Real.exp_pos _
  have hz : ∀ (F : Fin (n + m) → ℝ), (∀ t, ¬ t.val ≤ s → F t = 0) → ∑ t : Fin n, F (Fin.castAdd m t) = ∑ t, F t := by
    intro F hF
    rw [Fin.sum_univ_add, Finset.sum_eq_zero (f := fun i : Fin m => F (Fin.natAdd n i)) fun i _ => hF _ (by
      have : (Fin.natAdd n i).val = n + i.val := rfl
      omega), add_zero]
  unfold soft
  rw [htop, hmax, hM]
  simp only [hp, hv']
  have e1 : ∑ t : Fin n, (((if (Fin.castAdd m t).val ≤ s then Real.exp (σ' (Fin.castAdd m t) - M) else 0 : ℝ) : EReal)) * (v' (Fin.castAdd m t) : EReal)
      = ((∑ t, (if t.val ≤ s then Real.exp (σ' t - M) else 0 : ℝ) * v' t : ℝ) : EReal) := by
    rw [← hz _ fun t ht => by rw [if_neg ht, zero_mul], coe_sum]; simp only [EReal.coe_mul]
  have e2 : ∑ t : Fin n, (((if (Fin.castAdd m t).val ≤ s then Real.exp (σ' (Fin.castAdd m t) - M) else 0 : ℝ) : EReal))
      = ((∑ t, (if t.val ≤ s then Real.exp (σ' t - M) else 0 : ℝ) : ℝ) : EReal) := by
    rw [← hz _ fun t ht => by rw [if_neg ht], coe_sum]
  have e3 : ∑ t : Fin (n + m), (((if t.val ≤ s then Real.exp (σ' t - M) else 0 : ℝ) : EReal))
      = ((∑ t, (if t.val ≤ s then Real.exp (σ' t - M) else 0 : ℝ) : ℝ) : EReal) := (coe_sum _ _).symm
  rw [e1, e2, e3, Ideal.div_coe hl.ne']
  simp only [Ideal.div_coe hl.ne', ← EReal.coe_mul]
  rw [Finset.sum_mul]
  have e4 : ∀ G : Fin (n + m) → ℝ, ∑ t, (G t : EReal) = ((∑ t, G t : ℝ) : EReal) := fun G => (coe_sum _ _).symm
  rw [e4]
  exact congrArg _ (Finset.sum_congr rfl fun t _ => by ring)

end Cert.MlaRows

end
-- ==== Proof.MlaPrepPieces.lean ====
/- The three calls before the attention: what the body of each stores, entry by entry. -/
module

public import proofs.«01_k».proof.Proof.MlaRows
public import proofs.«01_k».proof.Proof.Gen.MlaIdeal.Skeleton
public import Idealize.ShloMosaic.Lib.Pipeline.ValueKit

@[expose] public section

set_option maxRecDepth 16384

noncomputable section

namespace Cert.MlaIdeal.Hand

open Idealize.ShloMosaic Idealize.ShloMosaic.TcCoe
open Cert.MlaIdeal Cert.MlaIdeal.Gen Cert.MlaRows

/-- The choice of the lanes from 64 up to 96. -/
theorem pick_rope (e : Fin 128) (a b : EReal) :
    Scalar.select (IntOp.andi (IntOp.cmpi .sge (BitVec.ofNat 32 e.val) 64#32) (IntOp.cmpi .slt (BitVec.ofNat 32 e.val) 96#32)) a b
      = if 64 ≤ e.val ∧ e.val < 96 then a else b := by
  have h : ∀ e : Fin 128, IntOp.andi (IntOp.cmpi .sge (BitVec.ofNat 32 e.val) 64#32) (IntOp.cmpi .slt (BitVec.ofNat 32 e.val) 96#32)
      = if 64 ≤ e.val ∧ e.val < 96 then 1#1 else 0#1 := by decide +kernel
  rw [h]
  split_ifs <;> rfl

/-- The comparison of the columns with the rows in the table of the mask. -/
theorem pick_mask (r : Fin 256) (l : Fin 2048) (a b : EReal) :
    Scalar.select (IntOp.cmpi .sgt (IntOp.subi (BitVec.ofNat 32 l.val) (BitVec.ofNat 32 r.val)) 1792#32) a b
      = if r.val + 1792 < l.val then a else b := by
  have h : IntOp.cmpi .sgt (IntOp.subi (BitVec.ofNat 32 l.val) (BitVec.ofNat 32 r.val)) 1792#32
      = if r.val + 1792 < l.val then 1#1 else 0#1 := by
    have a : ∀ n : ℕ, n < 2048 → (BitVec.ofNat 32 n : BitVec 32).toInt = (n : ℤ) := fun n hn => by
      rw [BitVec.toInt_eq_toNat_bmod, BitVec.toNat_ofNat, Nat.mod_eq_of_lt (by omega), Int.bmod_eq_of_le (by omega) (by omega)]
    have e : (BitVec.ofNat 32 l.val - BitVec.ofNat 32 r.val : BitVec 32).toInt = (l.val : ℤ) - r.val := by
      rw [BitVec.toInt_sub, a _ l.isLt, a _ (by omega), Int.bmod_eq_of_le (by omega) (by omega)]
    simp only [IntOp.cmpi, IntOp.subi, BitVec.slt, e, (by decide : (1792#32 : BitVec 32).toInt = 1792)]
    by_cases h : r.val + 1792 < l.val
    · rw [if_pos h, decide_eq_true (by omega)]; rfl
    · rw [if_neg h, decide_eq_false (by omega)]; rfl
  rw [h]
  split_ifs <;> rfl

/-- The table of the mask: minus infinity where the column is more than 1792 past the row, the given row elsewhere. -/
theorem table_row (a : Vec Ideal S1x1x2304 .f32) (r : Fin 256) (l : Fin 2048) :
    k0_pay1 a (ix3 0 r l) = if r.val + 1792 < l.val then ⊥ else a (ix3 0 0 ⟨l.val, by omega⟩) := by
  rw [← pick_mask]
  pointwise [k0_pay1]
  rfl

/-- A block of the projection into the latent space. -/
theorem down_row (X : Vec Ideal S512x1024 .f32) (w : Vec Ideal S1024x512 .bf16) (r : Fin 512) (l : Fin 512) :
    k1_pay1 X w (ix2 r l) = ∑ k, X (ix2 r k) * w (ix2 k l) := by
  pointwise [k1_pay1]

/-- The queries before the turn: the normed latent row times the weights. -/
theorem query_row (X : Vec Ideal S512x512 .f32) (g : Vec Ideal S1x256 .f32) (w : Vec Ideal S256x768 .bf16) (r : Fin 512) (j : Fin 768) :
    k2_pay6 X g w (ix2 r j) = ∑ k, rms (Ideal.ofBits .f32 0x43800000#32) (fun k : Fin 256 => X (ix2 r ⟨k.val, by omega⟩)) (fun k => g (ix2 0 k)) k * w (ix2 k j) := by
  unfold rms
  pointwise [k2_pay6, k2_pay3]

/-- The normed latent row of the keys and values. -/
theorem latent_row (X : Vec Ideal S512x512 .f32) (g : Vec Ideal S1x128 .f32) (r : Fin 512) (k : Fin 128) :
    k2_pay5 X g (ix2 r k) = rms (Ideal.ofBits .f32 0x43000000#32) (fun k : Fin 128 => X (ix2 r ⟨256 + k.val, by omega⟩)) (fun k => g (ix2 0 k)) k := by
  unfold rms
  pointwise [k2_pay5, k2_pay3]

/-- The keys before the turned lanes are added. -/
theorem key_row (X : Vec Ideal S512x512 .f32) (g : Vec Ideal S1x128 .f32) (w : Vec Ideal S128x768 .bf16) (r : Fin 512) (j : Fin 768) :
    k2_pay7 X g w (ix2 r j) = ∑ k, rms (Ideal.ofBits .f32 0x43000000#32) (fun k : Fin 128 => X (ix2 r ⟨256 + k.val, by omega⟩)) (fun k => g (ix2 0 k)) k * w (ix2 k j) := by
  simp only [← latent_row]
  pointwise [k2_pay7]

/-- The values. -/
theorem value_row (X : Vec Ideal S512x512 .f32) (g : Vec Ideal S1x128 .f32) (w : Vec Ideal S128x384 .bf16) (r : Fin 512) (j : Fin 384) :
    k2_pay2 (k2_pay8 (k2_pay5 X g) w) (ix2 r j) = ∑ k, rms (Ideal.ofBits .f32 0x43000000#32) (fun k : Fin 128 => X (ix2 r ⟨256 + k.val, by omega⟩)) (fun k => g (ix2 0 k)) k * w (ix2 k j) := by
  simp only [← latent_row]
  pointwise [k2_pay2, k2_pay8]

/-- The turned lanes that every head's keys share. -/
theorem shared_row (X : Vec Ideal S512x512 .f32) (c s1 s2 : Vec Ideal S512x128 .f32) (r : Fin 512) (l : Fin 128) :
    k2_pay12 (k2_pay4 X) c s1 s2 (ix2 r l)
      = if 64 ≤ l.val ∧ l.val < 96 then turn (fun l => X (ix2 r ⟨384 + l.val, by omega⟩)) (fun l => c (ix2 r l)) (fun l => s1 (ix2 r l)) (fun l => s2 (ix2 r l)) l
        else 0 := by
  rw [← pick_rope]
  unfold turn
  pointwise [k2_pay12, k2_pay4, k2_pay3, k2_pay9, k2_pay10, k2_pay11]

/-- The queries of head 0: the lanes turned, times the scale. -/
theorem query0 (U : FVec Ideal S512x768 .f32) (c s1 s2 : Vec Ideal S512x128 .f32) (r : Fin 512) (l : Fin 128) :
    k2_pay13 U c s1 s2 (ix2 r l)
      = turn (fun l => U (ix2 r ⟨0 + l.val, by omega⟩)) (fun l => c (ix2 r l)) (fun l => s1 (ix2 r l)) (fun l => s2 (ix2 r l)) l * Ideal.ofBits .f32 0x3DD105EC#32 := by
  unfold turn
  pointwise [k2_pay13, k2_pay9, k2_pay10, k2_pay11]

/-- The queries of head 1: the lanes turned, times the scale. -/
theorem query1 (U : FVec Ideal S512x768 .f32) (c s1 s2 : Vec Ideal S512x128 .f32) (r : Fin 512) (l : Fin 128) :
    k2_pay16 U (k2_pay9 c) (k2_pay10 s1) (k2_pay11 s2) (ix2 r l)
      = turn (fun l => U (ix2 r ⟨128 + l.val, by omega⟩)) (fun l => c (ix2 r l)) (fun l => s1 (ix2 r l)) (fun l => s2 (ix2 r l)) l * Ideal.ofBits .f32 0x3DD105EC#32 := by
  unfold turn
  pointwise [k2_pay16, k2_pay9, k2_pay10, k2_pay11]

/-- The queries of head 2: the lanes turned, times the scale. -/
theorem query2 (U : FVec Ideal S512x768 .f32) (c s1 s2 : Vec Ideal S512x128 .f32) (r : Fin 512) (l : Fin 128) :
    k2_pay18 U (k2_pay9 c) (k2_pay10 s1) (k2_pay11 s2) (ix2 r l)
      = turn (fun l => U (ix2 r ⟨256 + l.val, by omega⟩)) (fun l => c (ix2 r l)) (fun l => s1 (ix2 r l)) (fun l => s2 (ix2 r l)) l * Ideal.ofBits .f32 0x3DD105EC#32 := by
  unfold turn
  pointwise [k2_pay18, k2_pay9, k2_pay10, k2_pay11]

/-- The queries of head 3: the lanes turned, times the scale. -/
theorem query3 (U : FVec Ideal S512x768 .f32) (c s1 s2 : Vec Ideal S512x128 .f32) (r : Fin 512) (l : Fin 128) :
    k2_pay23 (k2_pay11 s2) (k2_pay20 U) (k2_pay21 U (k2_pay9 c)) (k2_pay22 U (k2_pay10 s1)) (ix2 r l)
      = turn (fun l => U (ix2 r ⟨384 + l.val, by omega⟩)) (fun l => c (ix2 r l)) (fun l => s1 (ix2 r l)) (fun l => s2 (ix2 r l)) l * Ideal.ofBits .f32 0x3DD105EC#32 := by
  unfold turn
  pointwise [k2_pay20, k2_pay21, k2_pay22, k2_pay23, k2_pay9, k2_pay10, k2_pay11]

/-- The queries of head 4: the lanes turned, times the scale. -/
theorem query4 (U : FVec Ideal S512x768 .f32) (c s1 s2 : Vec Ideal S512x128 .f32) (r : Fin 512) (l : Fin 128) :
    k2_pay25 U (k2_pay9 c) (k2_pay10 s1) (k2_pay11 s2) (ix2 r l)
      = turn (fun l => U (ix2 r ⟨512 + l.val, by omega⟩)) (fun l => c (ix2 r l)) (fun l => s1 (ix2 r l)) (fun l => s2 (ix2 r l)) l * Ideal.ofBits .f32 0x3DD105EC#32 := by
  unfold turn
  pointwise [k2_pay25, k2_pay9, k2_pay10, k2_pay11]

/-- The queries of head 5: the lanes turned, times the scale. -/
theorem query5 (U : FVec Ideal S512x768 .f32) (c s1 s2 : Vec Ideal S512x128 .f32) (r : Fin 512) (l : Fin 128) :
    k2_pay27 U (k2_pay9 c) (k2_pay10 s1) (k2_pay11 s2) (ix2 r l)
      = turn (fun l => U (ix2 r ⟨640 + l.val, by omega⟩)) (fun l => c (ix2 r l)) (fun l => s1 (ix2 r l)) (fun l => s2 (ix2 r l)) l * Ideal.ofBits .f32 0x3DD105EC#32 := by
  unfold turn
  pointwise [k2_pay27, k2_pay9, k2_pay10, k2_pay11]

/-- The keys of head 1. -/
theorem key1 (U : FVec Ideal S512x768 .f32) (R : FVec Ideal S512x128 .f32) (r : Fin 512) (l : Fin 128) :
    k2_pay17 U R (ix2 r l) = U (ix2 r ⟨128 + l.val, by omega⟩) + R (ix2 r l) := by
  pointwise [k2_pay17]

/-- The keys of head 2. -/
theorem key2 (U : FVec Ideal S512x768 .f32) (R : FVec Ideal S512x128 .f32) (r : Fin 512) (l : Fin 128) :
    k2_pay19 U R (ix2 r l) = U (ix2 r ⟨256 + l.val, by omega⟩) + R (ix2 r l) := by
  pointwise [k2_pay19]

/-- The keys of head 3. -/
theorem key3 (U : FVec Ideal S512x768 .f32) (R : FVec Ideal S512x128 .f32) (r : Fin 512) (l : Fin 128) :
    k2_pay24 U R (ix2 r l) = U (ix2 r ⟨384 + l.val, by omega⟩) + R (ix2 r l) := by
  pointwise [k2_pay24]

/-- The keys of head 4. -/
theorem key4 (U : FVec Ideal S512x768 .f32) (R : FVec Ideal S512x128 .f32) (r : Fin 512) (l : Fin 128) :
    k2_pay26 U R (ix2 r l) = U (ix2 r ⟨512 + l.val, by omega⟩) + R (ix2 r l) := by
  pointwise [k2_pay26]

/-- The keys of head 5. -/
theorem key5 (U : FVec Ideal S512x768 .f32) (R : FVec Ideal S512x128 .f32) (r : Fin 512) (l : Fin 128) :
    k2_pay1 U R (ix2 r l) = U (ix2 r ⟨640 + l.val, by omega⟩) + R (ix2 r l) := by
  pointwise [k2_pay1]

/-- The keys of head 0. -/
theorem key0 (U : FVec Ideal S512x768 .f32) (X : FVec Ideal S512x128 .f32) (c s1 s2 : Vec Ideal S512x128 .f32) (r : Fin 512) (l : Fin 128) :
    k2_pay15 (k2_pay14 X U c s1 s2) (ix2 r l) = U (ix2 r ⟨0 + l.val, by omega⟩) + k2_pay12 X c s1 s2 (ix2 r l) := by
  pointwise [k2_pay15, k2_pay14]

end Cert.MlaIdeal.Hand

end
-- ==== Proof.MlaPrepBlocks.lean ====
/- The three calls before the attention on whole arrays. -/
module

public import proofs.«01_k».proof.Proof.MlaPrepPieces
public import proofs.«01_k».proof.Proof.Gen.MlaIdeal.Frame

@[expose] public section

set_option maxRecDepth 16384

noncomputable section

namespace Cert.MlaIdeal.Hand

open Idealize.ShloMosaic Idealize.ShloMosaic.TcCoe Idealize.SL.Sem
open Idealize.ShloMosaic.Pipeline (Dat)
open Cert.MlaIdeal Cert.MlaIdeal.Gen Cert.MlaRows

theorem hz2 : (![0, 0] : Fin 2 → Nat) = fun _ => 0 := funext fun a => by fin_cases a <;> rfl
theorem hz3 : (![0, 0, 0] : Fin 3 → Nat) = fun _ => 0 := funext fun a => by fin_cases a <;> rfl

theorem at2 {n k : ℕ} (x : Shape.Idx (.mk 2 ![n, k])) : x = ix2 (x 0) (x 1) := by
  funext a
  fin_cases a <;> rfl

/-- One entry of the queries of a block: the head's lanes turned, times the scale. -/
def qrow (U : FVec Ideal S512x768 .f32) (c s1 s2 : Vec Ideal S512x128 .f32) (r : Fin 512) (j : Fin 768) : EReal :=
  turn (fun l => U (ix2 r ⟨j.val / 128 * 128 + l.val, by omega⟩)) (fun l => c (ix2 r l)) (fun l => s1 (ix2 r l)) (fun l => s2 (ix2 r l))
    ⟨j.val % 128, Nat.mod_lt _ (by omega)⟩ * Ideal.ofBits .f32 0x3DD105EC#32

theorem qrow_at (U : FVec Ideal S512x768 .f32) (c s1 s2 : Vec Ideal S512x128 .f32) (r r' : Fin 512) (l : Fin 128) (j : Fin 768) (o : ℕ)
    (hr : r'.val = r.val) (hj : j.val = o + l.val) (ho : o % 128 = 0) (hb : ∀ l : Fin 128, o + l.val < 768) :
    turn (fun l => U (ix2 r ⟨o + l.val, hb l⟩)) (fun l => c (ix2 r l)) (fun l => s1 (ix2 r l)) (fun l => s2 (ix2 r l)) l * Ideal.ofBits .f32 0x3DD105EC#32
      = qrow U c s1 s2 r' j := by
  obtain rfl : r' = r := Fin.ext hr
  unfold qrow
  have hl : (⟨j.val % 128, Nat.mod_lt _ (by omega)⟩ : Fin 128) = l := Fin.ext (by show j.val % 128 = l.val; omega)
  have hd : j.val / 128 * 128 = o := by omega
  rw [hl]
  simp only [hd]

/-- One entry of the keys of a block: the head's own, plus the turned lanes that every head shares. -/
def krow (U : FVec Ideal S512x768 .f32) (R : FVec Ideal S512x128 .f32) (r : Fin 512) (j : Fin 768) : EReal :=
  U (ix2 r j) + R (ix2 r ⟨j.val % 128, Nat.mod_lt _ (by omega)⟩)

theorem krow_at (U : FVec Ideal S512x768 .f32) (R : FVec Ideal S512x128 .f32) (r r' : Fin 512) (l : Fin 128) (j : Fin 768) (o : ℕ)
    (hr : r'.val = r.val) (hj : j.val = o + l.val) (ho : o % 128 = 0) (hb : o + l.val < 768) :
    U (ix2 r ⟨o + l.val, hb⟩) + R (ix2 r l) = krow U R r' j := by
  obtain rfl : r' = r := Fin.ext hr
  obtain rfl : j = ⟨o + l.val, hb⟩ := Fin.ext hj
  unfold krow
  have hl : (⟨(o + l.val) % 128, Nat.mod_lt _ (by omega)⟩ : Fin 128) = l := Fin.ext (by show (o + l.val) % 128 = l.val; omega)
  rw [hl]

theorem table_block (a : Vec Ideal S1x1x2304 .f32) : out0_1 a = k0_pay1 a := by
  unfold out0_1
  rw [View.canon_unit_zero hz3, View.ld_unit_zero hz3]

theorem down_block (X : Vec Ideal S512x1024 .f32) (w : Vec Ideal S1024x512 .bf16) : out1_2 X w = k1_pay1 X w := by
  unfold out1_2
  rw [View.canon_unit_zero hz2, View.ld_unit_zero hz2, View.ld_unit_zero hz2]

theorem ld0 (x : Vec Ideal S512x512 .f32) : View.ld x r2_0 = x := View.ld_unit_zero hz2 _ _
theorem ld1 (x : Vec Ideal S1x256 .f32) : View.ld x r2_1 = x := View.ld_unit_zero hz2 _ _
theorem ld2 (x : Vec Ideal S1x128 .f32) : View.ld x r2_2 = x := View.ld_unit_zero hz2 _ _
theorem ld3 (x : Vec Ideal S256x768 .bf16) : View.ld x r2_3 = x := View.ld_unit_zero hz2 _ _
theorem ld4 (x : Vec Ideal S128x768 .bf16) : View.ld x r2_4 = x := View.ld_unit_zero hz2 _ _
theorem ld5 (x : Vec Ideal S128x384 .bf16) : View.ld x r2_5 = x := View.ld_unit_zero hz2 _ _
theorem ld6 (x : Vec Ideal S512x128 .f32) : View.ld x r2_6 = x := View.ld_unit_zero hz2 _ _

variable (X : Vec Ideal S512x512 .f32) (g : Vec Ideal S1x256 .f32) (g' : Vec Ideal S1x128 .f32) (w : Vec Ideal S256x768 .bf16)
  (wk : Vec Ideal S128x768 .bf16) (wv : Vec Ideal S128x384 .bf16) (c s1 s2 : Vec Ideal S512x128 .f32)

theorem value_block : out2_11 X g g' w wk wv c s1 s2 = k2_pay2 (k2_pay8 (k2_pay5 X g') wv) := by
  unfold out2_11
  rw [View.canon_unit_zero hz2, View.ld_unit_zero hz2, View.ld_unit_zero hz2, View.ld_unit_zero hz2]

theorem query_block (y : S512x768.Idx) : out2_9 X g g' w wk wv c s1 s2 y = qrow (k2_pay6 X g w) c s1 s2 (y 0) (y 1) := by
  unfold_out out2_9
  simp only [ld0, ld1, ld3, ld6]
  canon_tiles x h
  case piece0 =>
    rw [at2 x]
    exact (query5 _ _ _ _ (x 0) (x 1)).trans (qrow_at _ _ _ _ (x 0) (y 0) (x 1) (y 1) 640 (by omega) (by omega) (by norm_num) _)
  case piece1 =>
    rw [at2 x]
    exact (query4 _ _ _ _ (x 0) (x 1)).trans (qrow_at _ _ _ _ (x 0) (y 0) (x 1) (y 1) 512 (by omega) (by omega) (by norm_num) _)
  case piece2 =>
    rw [at2 x]
    exact (query3 _ _ _ _ (x 0) (x 1)).trans (qrow_at _ _ _ _ (x 0) (y 0) (x 1) (y 1) 384 (by omega) (by omega) (by norm_num) _)
  case piece3 =>
    rw [at2 x]
    exact (query2 _ _ _ _ (x 0) (x 1)).trans (qrow_at _ _ _ _ (x 0) (y 0) (x 1) (y 1) 256 (by omega) (by omega) (by norm_num) _)
  case piece4 =>
    rw [at2 x]
    exact (query1 _ _ _ _ (x 0) (x 1)).trans (qrow_at _ _ _ _ (x 0) (y 0) (x 1) (y 1) 128 (by omega) (by omega) (by norm_num) _)
  case piece5 =>
    rw [at2 x]
    exact (query0 _ _ _ _ (x 0) (x 1)).trans (qrow_at _ _ _ _ (x 0) (y 0) (x 1) (y 1) 0 (by omega) (by omega) (by norm_num) _)

theorem key_block (y : S512x768.Idx) :
    out2_10 X g g' w wk wv c s1 s2 y = krow (k2_pay7 X g' wk) (k2_pay12 (k2_pay4 X) c s1 s2) (y 0) (y 1) := by
  unfold_out out2_10
  simp only [ld0, ld2, ld4, ld6]
  canon_tiles x h
  case piece0 =>
    rw [at2 x]
    exact (key5 _ _ (x 0) (x 1)).trans (krow_at _ _ (x 0) (y 0) (x 1) (y 1) 640 (by omega) (by omega) (by norm_num) _)
  case piece1 =>
    rw [at2 x]
    exact (key4 _ _ (x 0) (x 1)).trans (krow_at _ _ (x 0) (y 0) (x 1) (y 1) 512 (by omega) (by omega) (by norm_num) _)
  case piece2 =>
    rw [at2 x]
    exact (key3 _ _ (x 0) (x 1)).trans (krow_at _ _ (x 0) (y 0) (x 1) (y 1) 384 (by omega) (by omega) (by norm_num) _)
  case piece3 =>
    rw [at2 x]
    exact (key2 _ _ (x 0) (x 1)).trans (krow_at _ _ (x 0) (y 0) (x 1) (y 1) 256 (by omega) (by omega) (by norm_num) _)
  case piece4 =>
    rw [at2 x]
    exact (key1 _ _ (x 0) (x 1)).trans (krow_at _ _ (x 0) (y 0) (x 1) (y 1) 128 (by omega) (by omega) (by norm_num) _)
  case piece5 =>
    rw [at2 x]
    exact (key0 _ _ _ _ _ (x 0) (x 1)).trans (krow_at _ _ (x 0) (y 0) (x 1) (y 1) 0 (by omega) (by omega) (by norm_num) _)

end Cert.MlaIdeal.Hand

end
-- ==== Proof.MlaPrepArr.lean ====
/- The three calls before the attention on whole arrays. -/
module

public import proofs.«01_k».proof.Proof.MlaPrepBlocks

@[expose] public section

set_option maxRecDepth 16384

noncomputable section

namespace Cert.MlaIdeal.Hand

open Idealize.ShloMosaic Idealize.ShloMosaic.TcCoe Idealize.SL.Sem
open Idealize.ShloMosaic.Pipeline (Dat)
open Cert.MlaIdeal Cert.MlaIdeal.Gen Cert.MlaRows

/-! ### The table -/

/-- The table of the mask. -/
def tableArr (a : FVec Ideal S1x1x2304 .f32) : FVec Ideal S1x256x2048 .f32 := fun i =>
  if (i 1).val + 1792 < (i 2).val then ⊥ else a (ix3 0 0 ⟨(i 2).val, by have h : (i 2).val < 2048 := (i 2).isLt; omega⟩)

/-! ### The projection down -/

/-- The projection down, of flattened arrays. -/
def downArr (x : FVec Ideal S32768x1024 .f32) (w : FVec Ideal S1024x512 .bf16) : FVec Ideal S32768x512 .f32 := fun i =>
  ∑ k : Fin 1024, x (ix2 (i 0) k) * w (ix2 k (i 1))

/-! ### The projections up -/

/-- One entry of the queries: the head's lanes of the projection of the normed latent row, turned, times the scale. -/
def upQ (u : FVec Ideal S32768x512 .f32) (g : FVec Ideal S1x256 .f32) (w : FVec Ideal S256x768 .bf16) (c s1 s2 : FVec Ideal S32768x128 .f32)
    (T : Fin 32768) (j : Fin 768) : EReal :=
  turn (fun l => ∑ k, rms (Ideal.ofBits .f32 0x43800000#32) (fun k : Fin 256 => u (ix2 T ⟨k.val, by omega⟩)) (fun k => g (ix2 0 k)) k
      * w (ix2 k ⟨j.val / 128 * 128 + l.val, by omega⟩))
    (fun l => c (ix2 T l)) (fun l => s1 (ix2 T l)) (fun l => s2 (ix2 T l)) ⟨j.val % 128, Nat.mod_lt _ (by omega)⟩ * Ideal.ofBits .f32 0x3DD105EC#32

/-- One entry of the keys: the projection of the normed latent row, plus the turned lanes that every head shares. -/
def upK (u : FVec Ideal S32768x512 .f32) (g : FVec Ideal S1x128 .f32) (w : FVec Ideal S128x768 .bf16) (c s1 s2 : FVec Ideal S32768x128 .f32)
    (T : Fin 32768) (j : Fin 768) : EReal :=
  (∑ k, rms (Ideal.ofBits .f32 0x43000000#32) (fun k : Fin 128 => u (ix2 T ⟨256 + k.val, by omega⟩)) (fun k => g (ix2 0 k)) k * w (ix2 k j))
    + if 64 ≤ j.val % 128 ∧ j.val % 128 < 96 then
        turn (fun l => u (ix2 T ⟨384 + l.val, by omega⟩)) (fun l => c (ix2 T l)) (fun l => s1 (ix2 T l)) (fun l => s2 (ix2 T l)) ⟨j.val % 128, Nat.mod_lt _ (by omega)⟩
      else 0

/-- One entry of the values. -/
def upV (u : FVec Ideal S32768x512 .f32) (g : FVec Ideal S1x128 .f32) (w : FVec Ideal S128x384 .bf16) (T : Fin 32768) (j : Fin 384) : EReal :=
  ∑ k, rms (Ideal.ofBits .f32 0x43000000#32) (fun k : Fin 128 => u (ix2 T ⟨256 + k.val, by omega⟩)) (fun k => g (ix2 0 k)) k * w (ix2 k j)

def upQArr (u : FVec Ideal S32768x512 .f32) (g : FVec Ideal S1x256 .f32) (w : FVec Ideal S256x768 .bf16) (c s1 s2 : FVec Ideal S32768x128 .f32) :
    FVec Ideal S32768x768 .bf16 := fun i => upQ u g w c s1 s2 (i 0) (i 1)
def upKArr (u : FVec Ideal S32768x512 .f32) (g : FVec Ideal S1x128 .f32) (w : FVec Ideal S128x768 .bf16) (c s1 s2 : FVec Ideal S32768x128 .f32) :
    FVec Ideal S32768x768 .bf16 := fun i => upK u g w c s1 s2 (i 0) (i 1)
def upVArr (u : FVec Ideal S32768x512 .f32) (g : FVec Ideal S1x128 .f32) (w : FVec Ideal S128x384 .bf16) :
    FVec Ideal S32768x384 .bf16 := fun i => upV u g w (i 0) (i 1)

theorem qrow_eq (X : Vec Ideal S512x512 .f32) (g : Vec Ideal S1x256 .f32) (w : Vec Ideal S256x768 .bf16) (c s1 s2 : Vec Ideal S512x128 .f32)
    (u : FVec Ideal S32768x512 .f32) (g' : FVec Ideal S1x256 .f32) (w' : FVec Ideal S256x768 .bf16) (c' s1' s2' : FVec Ideal S32768x128 .f32)
    (ρ : Fin 512 → Fin 32768) (hX : ∀ r l, X (ix2 r l) = u (ix2 (ρ r) l)) (hg : ∀ k, g (ix2 0 k) = g' (ix2 0 k)) (hw : ∀ k j, w (ix2 k j) = w' (ix2 k j))
    (hc : ∀ r l, c (ix2 r l) = c' (ix2 (ρ r) l)) (hs1 : ∀ r l, s1 (ix2 r l) = s1' (ix2 (ρ r) l)) (hs2 : ∀ r l, s2 (ix2 r l) = s2' (ix2 (ρ r) l))
    (r : Fin 512) (j : Fin 768) : qrow (k2_pay6 X g w) c s1 s2 r j = upQ u g' w' c' s1' s2' (ρ r) j := by
  unfold qrow upQ
  simp only [query_row, hX, hg, hw, hc, hs1, hs2]

theorem krow_eq (X : Vec Ideal S512x512 .f32) (g : Vec Ideal S1x128 .f32) (w : Vec Ideal S128x768 .bf16) (c s1 s2 : Vec Ideal S512x128 .f32)
    (u : FVec Ideal S32768x512 .f32) (g' : FVec Ideal S1x128 .f32) (w' : FVec Ideal S128x768 .bf16) (c' s1' s2' : FVec Ideal S32768x128 .f32)
    (ρ : Fin 512 → Fin 32768) (hX : ∀ r l, X (ix2 r l) = u (ix2 (ρ r) l)) (hg : ∀ k, g (ix2 0 k) = g' (ix2 0 k)) (hw : ∀ k j, w (ix2 k j) = w' (ix2 k j))
    (hc : ∀ r l, c (ix2 r l) = c' (ix2 (ρ r) l)) (hs1 : ∀ r l, s1 (ix2 r l) = s1' (ix2 (ρ r) l)) (hs2 : ∀ r l, s2 (ix2 r l) = s2' (ix2 (ρ r) l))
    (r : Fin 512) (j : Fin 768) : krow (k2_pay7 X g w) (k2_pay12 (k2_pay4 X) c s1 s2) r j = upK u g' w' c' s1' s2' (ρ r) j := by
  unfold krow upK
  simp only [key_row, shared_row, hX, hg, hw, hc, hs1, hs2]

theorem vrow_eq (X : Vec Ideal S512x512 .f32) (g : Vec Ideal S1x128 .f32) (w : Vec Ideal S128x384 .bf16)
    (u : FVec Ideal S32768x512 .f32) (g' : FVec Ideal S1x128 .f32) (w' : FVec Ideal S128x384 .bf16)
    (ρ : Fin 512 → Fin 32768) (hX : ∀ r l, X (ix2 r l) = u (ix2 (ρ r) l)) (hg : ∀ k, g (ix2 0 k) = g' (ix2 0 k)) (hw : ∀ k j, w (ix2 k j) = w' (ix2 k j))
    (r : Fin 512) (j : Fin 384) : k2_pay2 (k2_pay8 (k2_pay5 X g) w) (ix2 r j) = upV u g' w' (ρ r) j := by
  unfold upV
  simp only [value_row, hX, hg, hw]

/-! ### The blocks -/

theorem idx0 : ∀ t : Fin cfg0.N, win0_0.index t = ![0, 0, 0] ∧ win0_1.index t = ![0, 0, 0] :=
  (by decide +kernel : ∀ t : Fin grid0.N, _)

theorem idx1 : ∀ t : Fin cfg1.N, win1_0.index t = ![t.val, 0] ∧ win1_1.index t = ![0, 0] ∧ win1_2.index t = ![t.val, 0] :=
  (by decide +kernel : ∀ t : Fin grid1.N, _)

theorem idx2 : ∀ t : Fin cfg2.N, win2_0.index t = ![t.val, 0] ∧ win2_1.index t = ![0, 0] ∧ win2_2.index t = ![0, 0] ∧ win2_3.index t = ![0, 0]
    ∧ win2_4.index t = ![0, 0] ∧ win2_5.index t = ![0, 0] ∧ win2_6.index t = ![t.val, 0] ∧ win2_7.index t = ![t.val, 0] ∧ win2_8.index t = ![t.val, 0]
    ∧ win2_9.index t = ![t.val, 0] ∧ win2_10.index t = ![t.val, 0] ∧ win2_11.index t = ![t.val, 0] :=
  (by decide +kernel : ∀ t : Fin grid2.N, _)

variable (V : (c : Dev nD) → (b : Ref sig .tc) → Buf (Elt Ideal) ((c : Thread nD τ).loc b))

/-- The array row that row `r` of the block at point `t` is. -/
def row1 (t : Fin cfg1.N) (r : Fin 512) : Fin 32768 := ⟨t.val * 512 + r.val, by
  have h : t.val < 64 := lt_of_lt_of_eq t.isLt N_1
  omega⟩
def row2 (t : Fin cfg2.N) (r : Fin 512) : Fin 32768 := ⟨t.val * 512 + r.val, by
  have h : t.val < 64 := lt_of_lt_of_eq t.isLt N_2
  omega⟩

theorem blk0_0 (c : Dev nD) (t : Fin cfg0.N) (l : Fin 2304) : iblk0 V c 0 t (ix3 0 0 l) = (V c main_v1 : FVec Ideal S1x1x2304 .f32) (ix3 0 0 l) := by
  blk_point [iblk0, idx0 t]

theorem blk1_0 (c : Dev nD) (t : Fin cfg1.N) (r : Fin 512) (k : Fin 1024) :
    iblk1 V c 0 t (ix2 r k) = (V c main_v31 : FVec Ideal S32768x1024 .f32) (ix2 (row1 t r) k) := by
  blk_point [iblk1, idx1 t, row1]
theorem blk1_1 (c : Dev nD) (t : Fin cfg1.N) (k : Fin 1024) (l : Fin 512) :
    iblk1 V c 1 t (ix2 k l) = (V c main_v45 : FVec Ideal S1024x512 .bf16) (ix2 k l) := by
  blk_point [iblk1, idx1 t]

theorem blk2_0 (c : Dev nD) (t : Fin cfg2.N) (r : Fin 512) (k : Fin 512) :
    iblk2 V c 0 t (ix2 r k) = (V c main_v46 : FVec Ideal S32768x512 .f32) (ix2 (row2 t r) k) := by
  blk_point [iblk2, idx2 t, row2]
theorem blk2_1 (c : Dev nD) (t : Fin cfg2.N) (k : Fin 256) : iblk2 V c 1 t (ix2 0 k) = (V c main_v59 : FVec Ideal S1x256 .f32) (ix2 0 k) := by
  blk_point [iblk2, idx2 t]
theorem blk2_2 (c : Dev nD) (t : Fin cfg2.N) (k : Fin 128) : iblk2 V c 2 t (ix2 0 k) = (V c main_v60 : FVec Ideal S1x128 .f32) (ix2 0 k) := by
  blk_point [iblk2, idx2 t]
theorem blk2_3 (c : Dev nD) (t : Fin cfg2.N) (k : Fin 256) (l : Fin 768) :
    iblk2 V c 3 t (ix2 k l) = (V c main_v56 : FVec Ideal S256x768 .bf16) (ix2 k l) := by
  blk_point [iblk2, idx2 t]
theorem blk2_4 (c : Dev nD) (t : Fin cfg2.N) (k : Fin 128) (l : Fin 768) :
    iblk2 V c 4 t (ix2 k l) = (V c main_v57 : FVec Ideal S128x768 .bf16) (ix2 k l) := by
  blk_point [iblk2, idx2 t]
theorem blk2_5 (c : Dev nD) (t : Fin cfg2.N) (k : Fin 128) (l : Fin 384) :
    iblk2 V c 5 t (ix2 k l) = (V c main_v58 : FVec Ideal S128x384 .bf16) (ix2 k l) := by
  blk_point [iblk2, idx2 t]
theorem blk2_6 (c : Dev nD) (t : Fin cfg2.N) (r : Fin 512) (k : Fin 128) :
    iblk2 V c 6 t (ix2 r k) = (V c main_v23 : FVec Ideal S32768x128 .f32) (ix2 (row2 t r) k) := by
  blk_point [iblk2, idx2 t, row2]
theorem blk2_7 (c : Dev nD) (t : Fin cfg2.N) (r : Fin 512) (k : Fin 128) :
    iblk2 V c 7 t (ix2 r k) = (V c main_v26 : FVec Ideal S32768x128 .f32) (ix2 (row2 t r) k) := by
  blk_point [iblk2, idx2 t, row2]
theorem blk2_8 (c : Dev nD) (t : Fin cfg2.N) (r : Fin 512) (k : Fin 128) :
    iblk2 V c 8 t (ix2 r k) = (V c main_v30 : FVec Ideal S32768x128 .f32) (ix2 (row2 t r) k) := by
  blk_point [iblk2, idx2 t, row2]

theorem emb0 (t : Fin cfg0.N) (r : Fin 256) (l : Fin 2048) : ((cfg0.win 1).blk t).view.emb (ix3 0 r l) = ix3 0 r l := by
  blk_ext [idx0 t]
theorem emb1 (t : Fin cfg1.N) (r l : Fin 512) : ((cfg1.win 2).blk t).view.emb (ix2 r l) = ix2 (row1 t r) l := by
  blk_ext [idx1 t, row1]
theorem emb9 (t : Fin cfg2.N) (r : Fin 512) (l : Fin 768) : ((cfg2.win 9).blk t).view.emb (ix2 r l) = ix2 (row2 t r) l := by
  blk_ext [idx2 t, row2]
theorem emb10 (t : Fin cfg2.N) (r : Fin 512) (l : Fin 768) : ((cfg2.win 10).blk t).view.emb (ix2 r l) = ix2 (row2 t r) l := by
  blk_ext [idx2 t, row2]
theorem emb11 (t : Fin cfg2.N) (r : Fin 512) (l : Fin 384) : ((cfg2.win 11).blk t).view.emb (ix2 r l) = ix2 (row2 t r) l := by
  blk_ext [idx2 t, row2]

/-! ### After each call -/

/-- After the first call its result array is the table. -/
theorem final0 (c : Dev nD) : (dat0 V c).arrAt 1 cfg0.N = tableArr (V c main_v1) := by
  refine (dat0 V c).arrAt_eq_of_covers 1 _ (by decide +kernel) fun t hf y => ?_
  blk_simp
  rw [after0_1, table_block]
  obtain ⟨r, l, rfl⟩ : ∃ (r : Fin 256) (l : Fin 2048), y = ix3 0 r l :=
    ⟨y 1, y 2, by funext a; fin_cases a; exact Fin.ext (by have := (y 0).isLt; show (y 0).val = 0; exact Nat.lt_one_iff.mp this); rfl; rfl⟩
  refine (table_row (iblk0 V c 0 t) r l).trans ?_
  refine Eq.trans ?_ (congrArg (tableArr (V c main_v1)) (emb0 t r l)).symm
  rw [blk0_0]
  rfl

/-- After the second call its result array is the projection down. -/
theorem final1 (c : Dev nD) : (dat1 V c).arrAt 2 cfg1.N = downArr (V c main_v31) (V c main_v45) := by
  refine (dat1 V c).arrAt_eq_of_covers 2 _ (by decide +kernel) fun t hf y => ?_
  blk_simp
  rw [after1_2, down_block]
  obtain ⟨r, l, rfl⟩ : ∃ (r l : Fin 512), y = ix2 r l := ⟨y 0, y 1, at2 y⟩
  refine (down_row (iblk1 V c 0 t) (iblk1 V c 1 t) r l).trans ?_
  refine Eq.trans ?_ (congrArg (downArr (V c main_v31) (V c main_v45)) (emb1 t r l)).symm
  simp only [blk1_0, blk1_1]
  rfl

/-- After the third call its result arrays are the queries, the keys and the values. -/
theorem final9 (c : Dev nD) : (dat2 V c).arrAt 9 cfg2.N
    = upQArr (V c main_v46) (V c main_v59) (V c main_v56) (V c main_v23) (V c main_v26) (V c main_v30) := by
  refine (dat2 V c).arrAt_eq_of_covers 9 _ (by decide +kernel) fun t hf y => ?_
  blk_simp
  rw [after2_9]
  obtain ⟨r, l, rfl⟩ : ∃ (r : Fin 512) (l : Fin 768), y = ix2 r l := ⟨y 0, y 1, at2 y⟩
  refine (query_block (iblk2 V c 0 t) (iblk2 V c 1 t) (iblk2 V c 2 t) (iblk2 V c 3 t) (iblk2 V c 4 t) (iblk2 V c 5 t) (iblk2 V c 6 t) (iblk2 V c 7 t)
    (iblk2 V c 8 t) (ix2 r l)).trans ?_
  refine (qrow_eq (iblk2 V c 0 t) (iblk2 V c 1 t) (iblk2 V c 3 t) (iblk2 V c 6 t) (iblk2 V c 7 t) (iblk2 V c 8 t) (V c main_v46) (V c main_v59)
    (V c main_v56) (V c main_v23) (V c main_v26) (V c main_v30) (row2 t) (blk2_0 V c t) (blk2_1 V c t) (blk2_3 V c t) (blk2_6 V c t) (blk2_7 V c t)
    (blk2_8 V c t) r l).trans ?_
  exact (congrArg (upQArr (V c main_v46) (V c main_v59) (V c main_v56) (V c main_v23) (V c main_v26) (V c main_v30)) (emb9 t r l)).symm

theorem final10 (c : Dev nD) : (dat2 V c).arrAt 10 cfg2.N
    = upKArr (V c main_v46) (V c main_v60) (V c main_v57) (V c main_v23) (V c main_v26) (V c main_v30) := by
  refine (dat2 V c).arrAt_eq_of_covers 10 _ (by decide +kernel) fun t hf y => ?_
  blk_simp
  rw [after2_10]
  obtain ⟨r, l, rfl⟩ : ∃ (r : Fin 512) (l : Fin 768), y = ix2 r l := ⟨y 0, y 1, at2 y⟩
  refine (key_block (iblk2 V c 0 t) (iblk2 V c 1 t) (iblk2 V c 2 t) (iblk2 V c 3 t) (iblk2 V c 4 t) (iblk2 V c 5 t) (iblk2 V c 6 t) (iblk2 V c 7 t)
    (iblk2 V c 8 t) (ix2 r l)).trans ?_
  refine (krow_eq (iblk2 V c 0 t) (iblk2 V c 2 t) (iblk2 V c 4 t) (iblk2 V c 6 t) (iblk2 V c 7 t) (iblk2 V c 8 t) (V c main_v46) (V c main_v60)
    (V c main_v57) (V c main_v23) (V c main_v26) (V c main_v30) (row2 t) (blk2_0 V c t) (blk2_2 V c t) (blk2_4 V c t) (blk2_6 V c t) (blk2_7 V c t)
    (blk2_8 V c t) r l).trans ?_
  exact (congrArg (upKArr (V c main_v46) (V c main_v60) (V c main_v57) (V c main_v23) (V c main_v26) (V c main_v30)) (emb10 t r l)).symm

theorem final11 (c : Dev nD) : (dat2 V c).arrAt 11 cfg2.N = upVArr (V c main_v46) (V c main_v60) (V c main_v58) := by
  refine (dat2 V c).arrAt_eq_of_covers 11 _ (by decide +kernel) fun t hf y => ?_
  blk_simp
  rw [after2_11, value_block]
  obtain ⟨r, l, rfl⟩ : ∃ (r : Fin 512) (l : Fin 384), y = ix2 r l := ⟨y 0, y 1, at2 y⟩
  refine (vrow_eq (iblk2 V c 0 t) (iblk2 V c 2 t) (iblk2 V c 5 t) (V c main_v46) (V c main_v60) (V c main_v58) (row2 t) (blk2_0 V c t) (blk2_2 V c t)
    (blk2_5 V c t) r l).trans ?_
  exact (congrArg (upVArr (V c main_v46) (V c main_v60) (V c main_v58)) (emb11 t r l)).symm

end Cert.MlaIdeal.Hand

end
-- ==== Proof.MlaPieces.lean ====
/- The attention call of the latent attention, one block of queries at a time: what each of the eight pieces of its body
   stores. -/
module

public import proofs.«01_k».proof.Proof.MlaRows
public import proofs.«01_k».proof.Proof.Gen.MlaIdeal.Skeleton
public import Idealize.ShloMosaic.Lib.Pipeline.ValueKit

@[expose] public section

set_option maxRecDepth 16384

noncomputable section

namespace Cert.MlaIdeal.Hand

open Idealize.ShloMosaic Idealize.ShloMosaic.TcCoe
open Cert.MlaIdeal Cert.MlaIdeal.Gen Cert.MlaRows

/-- The body's choice between the two heads of a block, by the lane. -/
theorem pick (e : Fin 128) (a b : EReal) :
    Scalar.select (IntOp.cmpi .slt (BitVec.ofNat 32 e.val) 64#32) a b = if e.val < 64 then a else b := by
  have h : ∀ e : Fin 128, IntOp.cmpi .slt (BitVec.ofNat 32 e.val) 64#32 = if e.val < 64 then 1#1 else 0#1 := by decide +kernel
  rw [h]
  split_ifs <;> rfl

/-- The rows of piece 0: each is the attention over the first 256 keys, for the first head in the first 64 lanes and for the
    second head in the others. -/
theorem piece0 (V : Vec Ideal S1x256x128 .bf16) (Q0 Q1 : Vec Ideal S1x256x128 .bf16) (K0 K1 : Vec Ideal S1x256x128 .bf16)
    (W : Vec Ideal S1x256x256 .f32) (r : Fin 256) (e : Fin 128) :
    k3_pay7 k3_pay2 (k3_pay3 V) (k3_pay4 V Q0 K0 W) (k3_pay5 Q1 K1) (k3_pay6 W) (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay3, k3_pay4, k3_pay5, k3_pay6, k3_pay7]

/-- The rows of piece 1: each is the attention over the first 512 keys, for the first head in the first 64 lanes and for the
    second head in the others. -/
theorem piece1 (V : Vec Ideal S1x512x128 .bf16) (Q0 Q1 : Vec Ideal S1x256x128 .bf16) (K0 K1 : Vec Ideal S1x512x128 .bf16)
    (W : Vec Ideal S1x256x512 .f32) (r : Fin 256) (e : Fin 128) :
    k3_pay12 k3_pay2 (k3_pay8 V) (k3_pay10 Q0 K0 W) (k3_pay11 Q0 K0 W) (constant S256x128 .f32 0x00000000#32) Q1 K1 W (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay8, k3_pay9, k3_pay10, k3_pay11, k3_pay12]

/-- The rows of piece 2: each is the attention over the first 768 keys, for the first head in the first 64 lanes and for the
    second head in the others. -/
theorem piece2 (V : Vec Ideal S1x768x128 .bf16) (Q0 Q1 : Vec Ideal S1x256x128 .bf16) (K0 K1 : Vec Ideal S1x768x128 .bf16)
    (W : Vec Ideal S1x256x768 .f32) (r : Fin 256) (e : Fin 128) :
    k3_pay16 (k3_pay15 k3_pay2 (k3_pay13 V) (k3_pay14 Q0) K0 W Q1 K1 W) (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay13, k3_pay14, k3_pay15, k3_pay16]

/-- The rows of piece 3: each is the attention over the first 1024 keys, for the first head in the first 64 lanes and for the
    second head in the others. -/
theorem piece3 (V : Vec Ideal S1x1024x128 .bf16) (Q0 Q1 : Vec Ideal S1x256x128 .bf16) (K0 K1 : Vec Ideal S1x1024x128 .bf16)
    (W : Vec Ideal S1x256x1024 .f32) (r : Fin 256) (e : Fin 128) :
    k3_pay21 k3_pay2 (k3_pay17 V) (k3_pay18 V Q0 K0 W) (k3_pay19 Q1 K1) (k3_pay20 W) (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay17, k3_pay18, k3_pay19, k3_pay20, k3_pay21]

/-- The rows of piece 4: each is the attention over the first 1280 keys, for the first head in the first 64 lanes and for the
    second head in the others. -/
theorem piece4 (V : Vec Ideal S1x1280x128 .bf16) (Q0 Q1 : Vec Ideal S1x256x128 .bf16) (K0 K1 : Vec Ideal S1x1280x128 .bf16)
    (W : Vec Ideal S1x256x1280 .f32) (r : Fin 256) (e : Fin 128) :
    k3_pay26 k3_pay2 (k3_pay22 V) (k3_pay24 Q0 K0 W) (k3_pay25 Q0 K0 W) (constant S256x128 .f32 0x00000000#32) Q1 K1 W (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay22, k3_pay23, k3_pay24, k3_pay25, k3_pay26]

/-- The rows of piece 5: each is the attention over the first 1536 keys, for the first head in the first 64 lanes and for the
    second head in the others. -/
theorem piece5 (V : Vec Ideal S1x1536x128 .bf16) (Q0 Q1 : Vec Ideal S1x256x128 .bf16) (K0 K1 : Vec Ideal S1x1536x128 .bf16)
    (W : Vec Ideal S1x256x1536 .f32) (r : Fin 256) (e : Fin 128) :
    k3_pay30 (k3_pay29 k3_pay2 (k3_pay27 V) (k3_pay28 Q0) K0 W Q1 K1 W) (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay27, k3_pay28, k3_pay29, k3_pay30]

/-- The rows of piece 6: each is the attention over the first 1792 keys, for the first head in the first 64 lanes and for the
    second head in the others. -/
theorem piece6 (V : Vec Ideal S1x1792x128 .bf16) (Q0 Q1 : Vec Ideal S1x256x128 .bf16) (K0 K1 : Vec Ideal S1x1792x128 .bf16)
    (W : Vec Ideal S1x256x1792 .f32) (r : Fin 256) (e : Fin 128) :
    k3_pay35 k3_pay2 (k3_pay31 V) (k3_pay32 V Q0 K0 W) (k3_pay33 Q1 K1) (k3_pay34 W) (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay2, k3_pay31, k3_pay32, k3_pay33, k3_pay34, k3_pay35]

/-- The rows of piece 7: each is the attention over the first 2048 keys, for the first head in the first 64 lanes and for the
    second head in the others. -/
theorem piece7 (V : Vec Ideal S1x2048x128 .bf16) (Q0 Q1 : Vec Ideal S1x256x128 .bf16) (K0 K1 : Vec Ideal S1x2048x128 .bf16)
    (W : Vec Ideal S1x256x2048 .f32) (r : Fin 256) (e : Fin 128) :
    k3_pay1 k3_pay2 (k3_pay36 V) (k3_pay38 Q0 K0 W) (k3_pay39 Q0 K0 W) (constant S256x128 .f32 0x00000000#32) Q1 K1 W (ix3 0 r e)
      = if e.val < 64 then soft (fun t => (∑ l, Q0 (ix3 0 r l) * K0 (ix3 0 t l)) + W (ix3 0 r t)) (fun t => V (ix3 0 t e))
        else soft (fun t => (∑ l, Q1 (ix3 0 r l) * K1 (ix3 0 t l)) + W (ix3 0 r t)) (fun t => V (ix3 0 t e)) := by
  rw [← pick]
  unfold soft top
  pointwise [k3_pay1, k3_pay2, k3_pay36, k3_pay37, k3_pay38, k3_pay39]

end Cert.MlaIdeal.Hand

end
-- ==== Proof.MlaAttn.lean ====
/- The attention call of the latent attention, one block row by row. -/
module

public import proofs.«01_k».proof.Proof.MlaPieces
public import proofs.«01_k».proof.Proof.Gen.MlaIdeal.Frame

@[expose] public section

set_option maxRecDepth 16384

noncomputable section

namespace Cert.MlaIdeal.Hand

open Idealize.ShloMosaic Idealize.ShloMosaic.TcCoe Idealize.SL.Sem
open Idealize.ShloMosaic.Pipeline (Dat)
open Cert.MlaIdeal Cert.MlaIdeal.Gen Cert.MlaRows

/-- Rows of one length, equal entry by entry, have one attention. -/
theorem soft_congr {n m : ℕ} (h : n = m) (f v : Fin n → EReal) (g u : Fin m → EReal)
    (hf : ∀ t (a : t < n) (b : t < m), f ⟨t, a⟩ = g ⟨t, b⟩) (hv : ∀ t (a : t < n) (b : t < m), v ⟨t, a⟩ = u ⟨t, b⟩) : soft f v = soft g u := by
  subst h
  rw [show f = g from funext fun t => hf t.val t.isLt t.isLt, show v = u from funext fun t => hv t.val t.isLt t.isLt]

/-- The number of keys that the block of the query at position `s` reads. -/
def keys (s : Fin 2048) : ℕ := (s.val / 256 + 1) * 256

theorem keys_le (s : Fin 2048) : keys s ≤ 2048 := by unfold keys; omega

/-- One row of a block of the attention: the queries, keys, values and table of two heads. -/
def blockRow (q k : Vec Ideal S1x2048x256 .bf16) (v : Vec Ideal S1x2048x128 .bf16) (w : Vec Ideal S1x256x2048 .f32) (s : Fin 2048) (e : Fin 128) : EReal :=
  soft (n := keys s)
    (fun t => (∑ l : Fin 128, q (ix3 0 s ⟨e.val / 64 * 128 + l.val, by omega⟩) * k (ix3 0 ⟨t.val, lt_of_lt_of_le t.isLt (keys_le s)⟩ ⟨e.val / 64 * 128 + l.val, by omega⟩))
      + w (ix3 0 ⟨s.val % 256, by omega⟩ ⟨2048 - keys s + t.val, by have := t.isLt; have := keys_le s; omega⟩))
    (fun t => v (ix3 0 ⟨t.val, lt_of_lt_of_le t.isLt (keys_le s)⟩ e))

theorem at3 (x : S1x256x128.Idx) : x = ix3 0 (x 1) (x 2) := by
  funext a
  fin_cases a
  · exact Fin.ext (by have := (x 0).isLt; show (x 0).val = 0; exact Nat.lt_one_iff.mp this)
  · rfl
  · rfl

/-- The output block of one point of the grid, row by row. -/
theorem out_row (q k : Vec Ideal S1x2048x256 .bf16) (v : Vec Ideal S1x2048x128 .bf16) (w : Vec Ideal S1x256x2048 .f32) (y : S1x2048x128.Idx) :
    out3_4 q k v w y = blockRow q k v w (y 1) (y 2) := by
  unfold_out out3_4
  canon_tiles x h
  case piece0 =>
    have hk : keys (y 1) = 2048 := by unfold keys; omega
    have hy : (y 1).val % 256 = (x 1).val := by omega
    rw [at3 x]
    refine (piece7 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece1 =>
    have hk : keys (y 1) = 1792 := by unfold keys; omega
    have hy : (y 1).val % 256 = (x 1).val := by omega
    rw [at3 x]
    refine (piece6 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece2 =>
    have hk : keys (y 1) = 1536 := by unfold keys; omega
    have hy : (y 1).val % 256 = (x 1).val := by omega
    rw [at3 x]
    refine (piece5 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece3 =>
    have hk : keys (y 1) = 1280 := by unfold keys; omega
    have hy : (y 1).val % 256 = (x 1).val := by omega
    rw [at3 x]
    refine (piece4 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece4 =>
    have hk : keys (y 1) = 1024 := by unfold keys; omega
    have hy : (y 1).val % 256 = (x 1).val := by omega
    rw [at3 x]
    refine (piece3 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece5 =>
    have hk : keys (y 1) = 768 := by unfold keys; omega
    have hy : (y 1).val % 256 = (x 1).val := by omega
    rw [at3 x]
    refine (piece2 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece6 =>
    have hk : keys (y 1) = 512 := by unfold keys; omega
    have hy : (y 1).val % 256 = (x 1).val := by omega
    rw [at3 x]
    refine (piece1 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []
  case piece7 =>
    have hk : keys (y 1) = 256 := by unfold keys; omega
    have hy : (y 1).val % 256 = (x 1).val := by omega
    rw [at3 x]
    refine (piece0 _ _ _ _ _ _ (x 1) (x 2)).trans ?_
    unfold blockRow
    split_ifs with he
    · have hz : (y 2).val / 64 = 0 := by omega
      refine soft_congr hk.symm _ _ _ _ (fun t a b => ?_) (fun t a b => ?_)
      · pointwise; blk_point []
      · pointwise; blk_point []
    · have hz : (y 2).val / 64 = 1 := by omega
      refine soft_congr hk.symm _ _ _ _ (fun t a b => ?_) (fun t a b => ?_)
      · pointwise; blk_point []
      · pointwise; blk_point []

end Cert.MlaIdeal.Hand

end
-- ==== Proof.MlaAttnArr.lean ====
/- The attention call of the latent attention on whole arrays. -/
module

public import proofs.«01_k».proof.Proof.MlaAttn

@[expose] public section

set_option maxRecDepth 16384

noncomputable section

namespace Cert.MlaIdeal.Hand

open Idealize.ShloMosaic Idealize.ShloMosaic.TcCoe Idealize.SL.Sem
open Idealize.ShloMosaic.Pipeline (Dat)
open Cert.MlaIdeal Cert.MlaIdeal.Gen Cert.MlaRows

/-- Every window's block index at a point of the grid. -/
theorem idx3 : ∀ t : Fin cfg3.N, win3_0.index t = ![t.val % 16, 0, t.val / 16] ∧ win3_1.index t = ![t.val % 16, 0, t.val / 16]
    ∧ win3_2.index t = ![t.val % 16, 0, t.val / 16] ∧ win3_3.index t = ![0, 0, 0] ∧ win3_4.index t = ![t.val % 16, 0, t.val / 16] :=
  (by decide +kernel : ∀ t : Fin grid3.N, _)

/-- The attention of whole arrays: head `j / 64` of batch `b`, query `s`, over the keys its block reads. -/
def attn (q k : FVec Ideal S16x2048x768 .bf16) (v : FVec Ideal S16x2048x384 .bf16) (w : FVec Ideal S1x256x2048 .f32) (b : Fin 16) (s : Fin 2048) (j : Fin 384) : EReal :=
  soft (n := keys s)
    (fun t => (∑ l : Fin 128, q (ix3 b s ⟨j.val / 64 * 128 + l.val, by omega⟩) * k (ix3 b ⟨t.val, lt_of_lt_of_le t.isLt (keys_le s)⟩ ⟨j.val / 64 * 128 + l.val, by omega⟩))
      + w (ix3 0 ⟨s.val % 256, by omega⟩ ⟨2048 - keys s + t.val, by have := t.isLt; have := keys_le s; omega⟩))
    (fun t => v (ix3 b ⟨t.val, lt_of_lt_of_le t.isLt (keys_le s)⟩ j))

variable (V : (c : Dev nD) → (b : Ref sig .tc) → Buf (Elt Ideal) ((c : Thread nD τ).loc b))

/-- The batch and the pair of heads of a point of the grid. -/
def bat3 (t : Fin cfg3.N) : Fin 16 := ⟨t.val % 16, by omega⟩
def pair3 (t : Fin cfg3.N) : Fin 3 := ⟨t.val / 16, by
  have h : t.val < 48 := lt_of_lt_of_eq t.isLt N_3
  omega⟩

theorem blk3_0 (c : Dev nD) (t : Fin cfg3.N) (s : Fin 2048) (l : Fin 256) :
    iblk3 V c 0 t (ix3 0 s l) = (V c main_v62 : FVec Ideal S16x2048x768 .bf16) (ix3 (bat3 t) s ⟨(pair3 t).val * 256 + l.val, by omega⟩) := by
  blk_point [iblk3, idx3 t, bat3, pair3]

theorem blk3_1 (c : Dev nD) (t : Fin cfg3.N) (s : Fin 2048) (l : Fin 256) :
    iblk3 V c 1 t (ix3 0 s l) = (V c main_v63 : FVec Ideal S16x2048x768 .bf16) (ix3 (bat3 t) s ⟨(pair3 t).val * 256 + l.val, by omega⟩) := by
  blk_point [iblk3, idx3 t, bat3, pair3]

theorem blk3_2 (c : Dev nD) (t : Fin cfg3.N) (s : Fin 2048) (l : Fin 128) :
    iblk3 V c 2 t (ix3 0 s l) = (V c main_v64 : FVec Ideal S16x2048x384 .bf16) (ix3 (bat3 t) s ⟨(pair3 t).val * 128 + l.val, by omega⟩) := by
  blk_point [iblk3, idx3 t, bat3, pair3]

theorem blk3_3 (c : Dev nD) (t : Fin cfg3.N) (r : Fin 256) (l : Fin 2048) :
    iblk3 V c 3 t (ix3 0 r l) = (V c main_v2 : FVec Ideal S1x256x2048 .f32) (ix3 0 r l) := by
  blk_point [iblk3, idx3 t]

/-- The attention of whole arrays, as an array. -/
def attnArr (q k : FVec Ideal S16x2048x768 .bf16) (v : FVec Ideal S16x2048x384 .bf16) (w : FVec Ideal S1x256x2048 .f32) : FVec Ideal S16x2048x384 .bf16 :=
  fun i => attn q k v w (i 0) (i 1) (i 2)

/-- A block's row is the whole arrays' row, when the block holds two heads `p` of one batch. -/
theorem blockRow_eq (q k : Vec Ideal S1x2048x256 .bf16) (v : Vec Ideal S1x2048x128 .bf16) (w : Vec Ideal S1x256x2048 .f32)
    (q' k' : FVec Ideal S16x2048x768 .bf16) (v' : FVec Ideal S16x2048x384 .bf16) (w' : FVec Ideal S1x256x2048 .f32) (b : Fin 16) (p : Fin 3)
    (hq : ∀ s l, q (ix3 0 s l) = q' (ix3 b s ⟨p.val * 256 + l.val, by omega⟩)) (hk : ∀ s l, k (ix3 0 s l) = k' (ix3 b s ⟨p.val * 256 + l.val, by omega⟩))
    (hv : ∀ s l, v (ix3 0 s l) = v' (ix3 b s ⟨p.val * 128 + l.val, by omega⟩)) (hw : ∀ r l, w (ix3 0 r l) = w' (ix3 0 r l)) (s : Fin 2048) (e : Fin 128) :
    blockRow q k v w s e = attn q' k' v' w' b s ⟨p.val * 128 + e.val, by omega⟩ := by
  unfold blockRow attn
  simp only [hq, hk, hv, hw]
  have hc : ∀ l : Fin 128, (⟨p.val * 256 + (e.val / 64 * 128 + l.val), by omega⟩ : Fin 768) = ⟨(p.val * 128 + e.val) / 64 * 128 + l.val, by omega⟩ := fun l =>
    Fin.ext (by show p.val * 256 + (e.val / 64 * 128 + l.val) = (p.val * 128 + e.val) / 64 * 128 + l.val; omega)
  simp only [hc]

theorem emb3 (t : Fin cfg3.N) (s : Fin 2048) (e : Fin 128) :
    ((cfg3.win 4).blk t).view.emb (ix3 0 s e) = ix3 (bat3 t) s ⟨(pair3 t).val * 128 + e.val, by omega⟩ := by
  blk_ext [idx3 t, bat3, pair3]

/-- After the attention call its result array is the attention of the arrays it reads. -/
theorem final3 (c : Dev nD) : (dat3 V c).arrAt 4 cfg3.N = attnArr (V c main_v62) (V c main_v63) (V c main_v64) (V c main_v2) := by
  refine (dat3 V c).arrAt_eq_of_covers 4 _ (by decide +kernel) fun t hf y => ?_
  blk_simp
  rw [after3_4]
  obtain ⟨s, e, rfl⟩ : ∃ (s : Fin 2048) (e : Fin 128), y = ix3 0 s e :=
    ⟨y 1, y 2, by funext a; fin_cases a; exact Fin.ext (by have := (y 0).isLt; show (y 0).val = 0; exact Nat.lt_one_iff.mp this); rfl; rfl⟩
  refine (out_row (iblk3 V c 0 t) (iblk3 V c 1 t) (iblk3 V c 2 t) (iblk3 V c 3 t) (ix3 0 s e)).trans ?_
  refine (blockRow_eq (iblk3 V c 0 t) (iblk3 V c 1 t) (iblk3 V c 2 t) (iblk3 V c 3 t) (V c main_v62) (V c main_v63) (V c main_v64) (V c main_v2)
    (bat3 t) (pair3 t) (blk3_0 V c t) (blk3_1 V c t) (blk3_2 V c t) (blk3_3 V c t) s e).trans ?_
  exact (congrArg (attnArr (V c main_v62) (V c main_v63) (V c main_v64) (V c main_v2)) (emb3 t s e)).symm

end Cert.MlaIdeal.Hand

end
-- ==== Proof.MlaSpec.lean ====
/- The latent attention over finite rows, in the order of operations of the plain reference, and the reference's operations
   read as it. -/
module

public import proofs.«01_k».proof.Proof.MlaRows
public import proofs.«01_k».proof.Proof.Gen.MlaRefIdeal.Read
public import Idealize.ShloMosaic.Lib.Pipeline.ValueKit

@[expose] public section

set_option maxRecDepth 16384

noncomputable section

namespace Cert.MlaRows

open Idealize.ShloMosaic

/-- A latent lane of a position: its row times a column of the weights. -/
def lat (x : Fin 1024 → EReal) (w : Fin 1024 → Fin 2920 → EReal) (j : Fin 416) : EReal := ∑ k, x k * w k ⟨2504 + j.val, by omega⟩

/-- A lane of the queries of a position. -/
def qp (L : Fin 416 → EReal) (g : Fin 256 → EReal) (w : Fin 256 → Fin 576 → EReal) (j : Fin 576) : EReal :=
  ∑ k, rms (Ideal.ofBits .f32 0x43800000#32) (fun k : Fin 256 => L ⟨k.val, by omega⟩) g k * w k j

/-- A lane of the keys and values of a position. -/
def kvp (L : Fin 416 → EReal) (g : Fin 128 → EReal) (w : Fin 128 → Fin 768 → EReal) (j : Fin 768) : EReal :=
  ∑ k, rms (Ideal.ofBits .f32 0x43000000#32) (fun k : Fin 128 => L ⟨256 + k.val, by omega⟩) g k * w k j

/-- The two halves of 32 lanes turned by the angles with cosines `c` and sines `s`. -/
def spun (t : Fin 32 → EReal) (c s : Fin 16 → EReal) (i : Fin 32) : EReal :=
  if h : i.val < 16 then t i * c ⟨i.val, h⟩ - t ⟨16 + i.val, by omega⟩ * s ⟨i.val, h⟩
  else t i * c ⟨i.val - 16, by omega⟩ + t ⟨i.val - 16, by omega⟩ * s ⟨i.val - 16, by omega⟩

/-- The logit of a query of head `h` with a key: the lanes without positions, then the turned lanes, times the scale. -/
def logit (h : Fin 6) (q : Fin 576 → EReal) (k : Fin 768 → EReal) (rq rk : Fin 32 → EReal) : EReal :=
  ((∑ d : Fin 64, q ⟨h.val * 96 + d.val, by omega⟩ * k ⟨h.val * 128 + d.val, by omega⟩) + ∑ i : Fin 32, rk i * rq i) * Ideal.ofBits .f32 0x3DD105EC#32

/-- The values weighted by the softmax of the logits up to the query's position `s`. -/
def mix (s : ℕ) (σ v : Fin 2048 → EReal) : EReal :=
  ∑ t, v t * Ideal.div (Ideal.exp (cut s σ t - max (Ideal.ofBits .f32 0xFF800000#32) (top (cut s σ))))
    (∑ t, Ideal.exp (cut s σ t - max (Ideal.ofBits .f32 0xFF800000#32) (top (cut s σ))))

end Cert.MlaRows

namespace Cert.MlaRefIdeal.Hand

open Idealize.ShloMosaic Cert.MlaRefIdeal Cert.MlaRefIdeal.Read Cert.MlaRows

variable (x : FVec Ideal S16x2048x1024 .f32) (p : IVec S16x2048 32) (w : FVec Ideal S1024x2920 .f32) (gq : FVec Ideal S256 .f32)
  (wq : FVec Ideal S256x576 .f32) (gk : FVec Ideal S128 .f32) (wk : FVec Ideal S128x768 .f32)

/-- The latent lanes of position `s` of batch `b`. -/
def L (b : Fin 16) (s : Fin 2048) (j : Fin 416) : EReal := lat (fun k => x (ix3 b s k)) (fun k j => w (ix2 k j)) j

/-- The queries of position `s` of batch `b`. -/
def Q (b : Fin 16) (s : Fin 2048) (j : Fin 576) : EReal := qp (L x w b s) (fun k => gq (ix1 k)) (fun k j => wq (ix2 k j)) j

/-- The keys and values of position `s` of batch `b`. -/
def KV (b : Fin 16) (s : Fin 2048) (j : Fin 768) : EReal := kvp (L x w b s) (fun k => gk (ix1 k)) (fun k j => wk (ix2 k j)) j

/-- The cosines and the sines of the angles of position `s` of batch `b`. -/
def CS (b : Fin 16) (s : Fin 2048) (i : Fin 16) : EReal := val_main_v50 (F := Ideal) p (ix3 b s i)
def SN (b : Fin 16) (s : Fin 2048) (i : Fin 16) : EReal := val_main_v51 (F := Ideal) p (ix3 b s i)

/-- The turned lanes of the queries of head `h` and of the keys. -/
def RQ (b : Fin 16) (h : Fin 6) (s : Fin 2048) (i : Fin 32) : EReal :=
  spun (fun i => Q x w gq wq b s ⟨h.val * 96 + 64 + i.val, by omega⟩) (CS p b s) (SN p b s) i
def RK (b : Fin 16) (s : Fin 2048) (i : Fin 32) : EReal :=
  spun (fun i => L x w b s ⟨384 + i.val, by omega⟩) (CS p b s) (SN p b s) i

/-- The logits of head `h` of batch `b`. -/
def LG (b : Fin 16) (h : Fin 6) (s t : Fin 2048) : EReal :=
  logit h (Q x w gq wq b s) (KV x w gk wk b t) (RQ x p w gq wq b h s) (RK x p w b t)

/-- The latent attention's result. -/
def ref (b : Fin 16) (s : Fin 2048) (j : Fin 384) : EReal :=
  mix s.val (LG x p w gq wq gk wk b ⟨j.val / 64, by omega⟩ s) (fun t => KV x w gk wk b t ⟨j.val / 64 * 128 + 64 + j.val % 64, by omega⟩)

theorem v1_at (b : Fin 16) (s : Fin 2048) (k : Fin 256) : val_main_v1 (F := Ideal) x w (ix3 b s k) = L x w b s ⟨k.val, by omega⟩ := by
  unfold L lat
  pointwise [val_main_v1, val_main_v0]

theorem v2_at (b : Fin 16) (s : Fin 2048) (k : Fin 128) : val_main_v2 (F := Ideal) x w (ix3 b s k) = L x w b s ⟨256 + k.val, by omega⟩ := by
  unfold L lat
  pointwise [val_main_v2, val_main_v0]
  blk_point []

theorem v3_at (b : Fin 16) (s : Fin 2048) (k : Fin 32) : val_main_v3 (F := Ideal) x w (ix3 b s k) = L x w b s ⟨384 + k.val, by omega⟩ := by
  unfold L lat
  pointwise [val_main_v3, val_main_v0]
  blk_point []

theorem v17_at (b : Fin 16) (s : Fin 2048) (j : Fin 576) : val_main_v17 (F := Ideal) x w gq wq (ix3 b s j) = Q x w gq wq b s j := by
  unfold Q qp rms
  simp only [← v1_at]
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1]

theorem v32_at (b : Fin 16) (s : Fin 2048) (j : Fin 768) : val_main_v32 (F := Ideal) x w gk wk (ix3 b s j) = KV x w gk wk b s j := by
  unfold KV kvp rms
  simp only [← v2_at]
  pointwise [val_main_v32, val_main_v31, val_main_v30, val_main_v29, val_main_v28, val_main_v27, val_main_v26, val_main_v25, val_main_v24, val_main_v23,
    val_main_v22, val_main_v21, val_main_v20, val_main_v19, val_main_cst_2, val_main_cst_3, val_main_cst_4]

theorem v68_at (b : Fin 16) (s : Fin 2048) (h : Fin 6) (i : Fin 32) : val_main_v68 (F := Ideal) x p w gq wq (ix4 b s h i) = RQ x p w gq wq b h s i := by
  unfold RQ spun CS SN
  simp only [← v17_at]
  pointwise [val_main_v68, val_main_v67, val_main_v66, val_main_v65, val_main_v64, val_main_v63, val_main_v62, val_main_v61, val_main_v60, val_main_v59,
    val_main_v58, val_main_v57, val_main_v56, val_main_v55, val_main_v54, val_main_v53, val_main_v18]
  blk_point []

theorem v79_at (b : Fin 16) (s : Fin 2048) (i : Fin 32) : val_main_v79 (F := Ideal) x p w (ix3 b s i) = RK x p w b s i := by
  unfold RK spun CS SN
  pointwise [val_main_v79, val_main_v78, val_main_v77, val_main_v76, val_main_v75, val_main_v74, val_main_v73, val_main_v72, val_main_v71]
  simp only [v3_at]
  blk_point []
  exact Fin.ext (by show 384 + (16 + (i.val - 16)) = 384 + i.val; omega)

/-- The comparison of the keys' positions with the query's. -/
theorem pick_le (t s : Fin 2048) (a : EReal) :
    Scalar.select (IntOp.cmpi .sle (BitVec.ofNat 32 t.val) (BitVec.ofNat 32 s.val)) a (Ideal.ofBits .f32 0xFF800000#32)
      = if t.val ≤ s.val then a else ⊥ := by
  have e : ∀ n : ℕ, n < 2048 → (BitVec.ofNat 32 n : BitVec 32).toInt = (n : ℤ) := fun n hn => by
    rw [BitVec.toInt_eq_toNat_bmod, BitVec.toNat_ofNat, Nat.mod_eq_of_lt (by omega), Int.bmod_eq_of_le (by omega) (by omega)]
  have h : IntOp.cmpi .sle (BitVec.ofNat 32 t.val) (BitVec.ofNat 32 s.val) = if t.val ≤ s.val then 1#1 else 0#1 := by
    simp only [IntOp.cmpi, BitVec.sle, e _ t.isLt, e _ s.isLt]
    by_cases h : t.val ≤ s.val
    · rw [if_pos h, decide_eq_true (by omega)]; rfl
    · rw [if_neg h, decide_eq_false (by omega)]; rfl
  rw [h, neg_inf]
  split_ifs <;> rfl

theorem v92_at (b : Fin 16) (h : Fin 6) (s t : Fin 2048) :
    val_main_v92 (F := Ideal) x p w gq wq gk wk (ix4 b h s t) = cut s.val (LG x p w gq wq gk wk b h s) t := by
  unfold cut LG logit
  simp only [← v17_at, ← v32_at, ← v68_at, ← v79_at]
  pointwise [val_main_v92, val_main_call0_v2, val_main_call0_v1, val_main_call0_v0, val_main_cst_10, val_main_v91, val_main_v90, val_main_v89, val_main_v88,
    val_main_v87, val_main_v86, val_main_v85, val_main_cst_9, val_main_v84, val_main_v83, val_main_v82, val_main_v81, val_main_v80, val_main_v69, val_main_v52,
    val_main_v33, val_main_v18]
  exact pick_le _ _ _

theorem v93_at (b : Fin 16) (h : Fin 6) (s : Fin 2048) :
    val_main_v93 (F := Ideal) x p w gq wq gk wk (ix3 b h s) = top fun t => val_main_v92 (F := Ideal) x p w gq wq gk wk (ix4 b h s t) := by
  unfold top
  pointwise [val_main_v93, val_main_cst_11]

theorem v95_at (b : Fin 16) (h : Fin 6) (s : Fin 2048) :
    val_main_v95 (F := Ideal) x p w gq wq gk wk (ix3 b h s)
      = max (Ideal.ofBits .f32 0xFF800000#32) (val_main_v93 (F := Ideal) x p w gq wq gk wk (ix3 b h s)) := by
  rw [val_main_v95_apply, val_main_v94_apply, val_main_cst_12_apply]
  rfl

theorem v97_at (b : Fin 16) (h : Fin 6) (s t : Fin 2048) :
    val_main_v97 (F := Ideal) x p w gq wq gk wk (ix4 b h s t) = val_main_v95 (F := Ideal) x p w gq wq gk wk (ix3 b h s) := by
  rw [val_main_v97_apply, val_main_v96_apply]
  exact congrArg _ (funext fun a => by fin_cases a <;> rfl)

theorem v99_at (b : Fin 16) (h : Fin 6) (s t : Fin 2048) :
    val_main_v99 (F := Ideal) x p w gq wq gk wk (ix4 b h s t)
      = Ideal.exp (val_main_v92 (F := Ideal) x p w gq wq gk wk (ix4 b h s t)
          - max (Ideal.ofBits .f32 0xFF800000#32) (val_main_v93 (F := Ideal) x p w gq wq gk wk (ix3 b h s))) := by
  rw [val_main_v99_apply, val_main_v98_apply, v97_at, v95_at]
  rfl

theorem v103_at (b : Fin 16) (h : Fin 6) (s t : Fin 2048) :
    val_main_v103 (F := Ideal) x p w gq wq gk wk (ix4 b h s t)
      = Ideal.div (val_main_v99 (F := Ideal) x p w gq wq gk wk (ix4 b h s t)) (∑ t, val_main_v99 (F := Ideal) x p w gq wq gk wk (ix4 b h s t)) := by
  pointwise [val_main_v103, val_main_v102, val_main_v101, val_main_v100, val_main_cst_13]

theorem v107_sum (b : Fin 16) (s : Fin 2048) (j : Fin 384) :
    val_main_v107 (F := Ideal) x p w gq wq gk wk (ix3 b s j)
      = ∑ t, val_main_v32 (F := Ideal) x w gk wk (ix3 b t ⟨j.val / 64 * 128 + 64 + j.val % 64, by omega⟩)
          * val_main_v103 (F := Ideal) x p w gq wq gk wk (ix4 b ⟨j.val / 64, by omega⟩ s t) := by
  pointwise [val_main_v107, val_main_v106, val_main_v105, val_main_v104, val_main_v70, val_main_v33]
  blk_point []

theorem v107_at (b : Fin 16) (s : Fin 2048) (j : Fin 384) :
    val_main_v107 (F := Ideal) x p w gq wq gk wk (ix3 b s j) = ref x p w gq wq gk wk b s j := by
  rw [v107_sum]
  unfold ref mix
  simp only [v103_at, v99_at, v93_at, v92_at, v32_at]

end Cert.MlaRefIdeal.Hand

end
-- ==== Proof.MlaAlgebra.lean ====
/- The kernel's rows of the latent attention, with their padded lanes and their scaled queries, against the reference's. -/
module

public import proofs.«01_k».proof.Proof.MlaSpec

@[expose] public section

noncomputable section

namespace Cert.MlaRows

open Idealize.ShloMosaic

/-- The angle of a position at lane `i`. -/
def ang (p : BitVec 32) (i : Fin 16) : EReal :=
  FloatOps.sitofp (F := Ideal) .f32 p * Ideal.pow (Ideal.ofBits .f32 0x461C4000#32)
    (Ideal.div (-(Ideal.ofBits .f32 0x40000000#32 * FloatOps.sitofp (F := Ideal) .f32 (BitVec.ofNat 32 i.val))) (Ideal.ofBits .f32 0x42000000#32))

/-- Every angle is finite. -/
theorem Re.ang (p : BitVec 32) (i : Fin 16) : Re (MlaRows.ang p i) := by
  have h1 : Ideal.ofBits .f32 0x461C4000#32 = ((10000 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x42000000#32 = ((32 : ℝ) : EReal) := by
    simp [Ideal.ofBits, Ideal.ieee, -EReal.coe_mul]; norm_num
  have hi : ∀ x : BitVec 32, Re (FloatOps.sitofp (F := Ideal) .f32 x) := fun x => ⟨_, rfl⟩
  unfold MlaRows.ang
  rw [h1, h2, h3]
  refine (hi p).mul ?_
  have he : Re (Ideal.div (-(((2 : ℝ) : EReal) * FloatOps.sitofp (F := Ideal) .f32 (BitVec.ofNat 32 i.val))) ((32 : ℝ) : EReal)) := by
    rw [Ideal.div_coe (by norm_num)]
    exact ((Re.coe 2).mul (hi _)).neg.mul (Re.coe _)
  obtain ⟨e, he⟩ := he
  rw [he]
  exact ⟨_, rfl⟩

/-- The tables of the turn, lane by lane: lanes 64 up to 80 and 80 up to 96 turn, the others stay. -/
def ct (C : Fin 16 → EReal) (l : Fin 128) : EReal :=
  if l.val < 64 then 1 else if h : l.val - 64 < 16 then C ⟨l.val - 64, h⟩ else if h : l.val - 64 - 16 < 16 then C ⟨l.val - 64 - 16, h⟩ else 1
def st1 (S : Fin 16 → EReal) (l : Fin 128) : EReal :=
  if l.val < 80 then 0 else if h : l.val - 80 < 16 then S ⟨l.val - 80, h⟩ else 0
def st2 (S : Fin 16 → EReal) (l : Fin 128) : EReal :=
  if l.val < 64 then 0 else if h : l.val - 64 < 16 then -S ⟨l.val - 64, h⟩ else 0

theorem turn_low (t : Fin 128 → EReal) (C S : Fin 16 → EReal) (l : Fin 128) (h : l.val < 64) : turn t (ct C) (st1 S) (st2 S) l = t l := by
  have h' : l.val < 80 := by omega
  simp only [turn, ct, st1, st2, if_pos h, if_pos h', mul_one, mul_zero, add_zero]

theorem turn_high (t : Fin 128 → EReal) (C S : Fin 16 → EReal) (l : Fin 128) (h : 96 ≤ l.val) : turn t (ct C) (st1 S) (st2 S) l = t l := by
  have h1 : ¬ l.val < 64 := by omega
  have h2 : ¬ l.val - 64 < 16 := by omega
  have h3 : ¬ l.val - 80 < 16 := by omega
  have h4 : ¬ l.val < 80 := by omega
  have h5 : ¬ l.val - 64 - 16 < 16 := by omega
  simp only [turn, ct, st1, st2, if_neg h1, dif_neg h2, dif_neg h3, dif_neg h5, if_neg h4, mul_one, mul_zero, add_zero]

theorem turn_mid (t : Fin 128 → EReal) (C S : Fin 16 → EReal) (i : Fin 32) :
    turn t (ct C) (st1 S) (st2 S) ⟨64 + i.val, by omega⟩ = spun (fun i => t ⟨64 + i.val, by omega⟩) C S i := by
  have h1 : ¬ 64 + i.val < 64 := by omega
  unfold spun turn
  by_cases hi : i.val < 16
  · have h2 : 64 + i.val - 64 < 16 := by omega
    have h3 : 64 + i.val < 80 := by omega
    have e1 : (⟨64 + i.val - 64, h2⟩ : Fin 16) = ⟨i.val, hi⟩ := Fin.ext (by show 64 + i.val - 64 = i.val; omega)
    have e2 : (⟨(64 + i.val + 128 - 112) % 128, Nat.mod_lt _ (by omega)⟩ : Fin 128) = ⟨64 + (16 + i.val), by omega⟩ :=
      Fin.ext (by show (64 + i.val + 128 - 112) % 128 = 64 + (16 + i.val); omega)
    rw [dif_pos hi]
    simp only [ct, st1, st2, if_neg h1, dif_pos h2, if_pos h3, e1, e2, mul_zero, add_zero, mul_neg]
    rfl
  · have h2 : ¬ 64 + i.val - 64 < 16 := by omega
    have h3 : 64 + i.val - 80 < 16 := by omega
    have h4 : ¬ 64 + i.val < 80 := by omega
    have e1 : (⟨64 + i.val - 80, h3⟩ : Fin 16) = ⟨i.val - 16, by omega⟩ := Fin.ext (by show 64 + i.val - 80 = i.val - 16; omega)
    have h5 : 64 + i.val - 64 - 16 < 16 := by omega
    have e3 : (⟨64 + i.val - 64 - 16, h5⟩ : Fin 16) = ⟨i.val - 16, by omega⟩ := Fin.ext (by show 64 + i.val - 64 - 16 = i.val - 16; omega)
    have e2 : (⟨(64 + i.val + 128 - 16) % 128, Nat.mod_lt _ (by omega)⟩ : Fin 128) = ⟨64 + (i.val - 16), by omega⟩ :=
      Fin.ext (by show (64 + i.val + 128 - 16) % 128 = 64 + (i.val - 16); omega)
    rw [dif_neg hi]
    simp only [ct, st1, st2, if_neg h1, dif_neg h2, dif_pos h3, dif_pos h5, if_neg h4, e1, e2, e3, mul_zero, add_zero]

theorem Re.spun {t : Fin 32 → EReal} {C S : Fin 16 → EReal} (ht : ∀ i, Re (t i)) (hC : ∀ i, Re (C i)) (hS : ∀ i, Re (S i)) (i : Fin 32) :
    Re (MlaRows.spun t C S i) := by
  unfold MlaRows.spun
  split_ifs
  · exact ((ht _).mul (hC _)).sub ((ht _).mul (hS _))
  · exact ((ht _).mul (hC _)).add ((ht _).mul (hS _))

/-- A sum over 128 lanes in three parts. -/
theorem sum_lanes (f : Fin 128 → EReal) :
    ∑ l, f l = (∑ d : Fin 64, f ⟨d.val, by omega⟩ + ∑ i : Fin 32, f ⟨64 + i.val, by omega⟩) + ∑ i : Fin 32, f ⟨96 + i.val, by omega⟩ := by
  rw [show (∑ l, f l) = ∑ l : Fin (64 + 32 + 32), f l from rfl, Fin.sum_univ_add, Fin.sum_univ_add]
  rfl

/-- A finite factor leaves a sum of finite numbers. -/
theorem sum_mul_fin {ι : Type} [Fintype ι] {f : ι → EReal} {s : EReal} (hf : ∀ i, Re (f i)) (hs : Re s) : ∑ i, f i * s = (∑ i, f i) * s := by
  choose g hg using hf
  obtain ⟨r, rfl⟩ := hs
  simp only [hg, ← EReal.coe_mul, ← coe_sum]
  rw [Finset.sum_mul]

theorem add_mul_fin {a b s : EReal} (ha : Re a) (hb : Re b) (hs : Re s) : a * s + b * s = (a + b) * s := by
  obtain ⟨a, rfl⟩ := ha; obtain ⟨b, rfl⟩ := hb; obtain ⟨s, rfl⟩ := hs
  rw [← EReal.coe_mul, ← EReal.coe_mul, ← EReal.coe_add, ← EReal.coe_add, ← EReal.coe_mul]
  exact congrArg _ (by ring)

/-- The sum over 128 lanes of a scaled query times a key is the logit: the lanes past 96 are zero, the scale moves out. -/
theorem logit_lanes (h : Fin 6) (tq kk tr : Fin 128 → EReal) (q : Fin 576 → EReal) (k : Fin 768 → EReal) (r : Fin 32 → EReal) (Cq Sq Ck Sk : Fin 16 → EReal)
    (h1 : ∀ l (hl : l < 96), tq ⟨l, by omega⟩ = q ⟨h.val * 96 + l, by omega⟩) (h2 : ∀ l : Fin 128, 96 ≤ l.val → tq l = 0)
    (h3 : ∀ l (hl : l < 64), kk ⟨l, by omega⟩ = k ⟨h.val * 128 + l, by omega⟩) (h4 : ∀ l : Fin 128, 64 ≤ l.val → kk l = 0)
    (h5 : ∀ i : Fin 32, tr ⟨64 + i.val, by omega⟩ = r i)
    (hq : ∀ i, Re (q i)) (hk : ∀ i, Re (k i)) (hr : ∀ i, Re (r i)) (hCq : ∀ i, Re (Cq i)) (hSq : ∀ i, Re (Sq i)) (hCk : ∀ i, Re (Ck i)) (hSk : ∀ i, Re (Sk i)) :
    ∑ l : Fin 128, (turn tq (ct Cq) (st1 Sq) (st2 Sq) l * Ideal.ofBits .f32 0x3DD105EC#32)
        * (kk l + if 64 ≤ l.val ∧ l.val < 96 then turn tr (ct Ck) (st1 Sk) (st2 Sk) l else 0)
      = logit h q k (spun (fun i => q ⟨h.val * 96 + 64 + i.val, by omega⟩) Cq Sq) (spun r Ck Sk) := by
  rw [sum_lanes]
  have e1 : ∀ d : Fin 64, (turn tq (ct Cq) (st1 Sq) (st2 Sq) ⟨d.val, by omega⟩ * Ideal.ofBits .f32 0x3DD105EC#32)
        * (kk ⟨d.val, by omega⟩ + if 64 ≤ d.val ∧ d.val < 96 then turn tr (ct Ck) (st1 Sk) (st2 Sk) ⟨d.val, by omega⟩ else 0)
      = (q ⟨h.val * 96 + d.val, by omega⟩ * k ⟨h.val * 128 + d.val, by omega⟩) * Ideal.ofBits .f32 0x3DD105EC#32 := by
    intro d
    rw [turn_low _ _ _ _ d.isLt, if_neg (by omega), add_zero, h1 d.val (by omega), h3 d.val d.isLt, mul_right_comm]
  have e2 : ∀ i : Fin 32, (turn tq (ct Cq) (st1 Sq) (st2 Sq) ⟨64 + i.val, by omega⟩ * Ideal.ofBits .f32 0x3DD105EC#32)
        * (kk ⟨64 + i.val, by omega⟩ + if 64 ≤ 64 + i.val ∧ 64 + i.val < 96 then turn tr (ct Ck) (st1 Sk) (st2 Sk) ⟨64 + i.val, by omega⟩ else 0)
      = (spun r Ck Sk i * spun (fun i => q ⟨h.val * 96 + 64 + i.val, by omega⟩) Cq Sq i) * Ideal.ofBits .f32 0x3DD105EC#32 := by
    intro i
    have eq : (fun i : Fin 32 => tq ⟨64 + i.val, by omega⟩) = fun i => q ⟨h.val * 96 + 64 + i.val, by omega⟩ := funext fun i =>
      (h1 (64 + i.val) (by omega)).trans (congrArg q (Fin.ext (by show h.val * 96 + (64 + i.val) = h.val * 96 + 64 + i.val; omega)))
    rw [turn_mid, turn_mid, if_pos (by omega), h4 _ (by show 64 ≤ 64 + i.val; omega), zero_add, eq, show (fun i : Fin 32 => tr ⟨64 + i.val, by omega⟩) = r from funext h5,
      mul_right_comm, mul_comm (spun r Ck Sk i)]
  have e3 : ∀ i : Fin 32, (turn tq (ct Cq) (st1 Sq) (st2 Sq) ⟨96 + i.val, by omega⟩ * Ideal.ofBits .f32 0x3DD105EC#32)
        * (kk ⟨96 + i.val, by omega⟩ + if 64 ≤ 96 + i.val ∧ 96 + i.val < 96 then turn tr (ct Ck) (st1 Sk) (st2 Sk) ⟨96 + i.val, by omega⟩ else 0) = 0 := by
    intro i
    rw [turn_high _ _ _ _ (by show 96 ≤ 96 + i.val; omega), h2 _ (by show 96 ≤ 96 + i.val; omega), zero_mul, zero_mul]
  rw [Finset.sum_congr rfl fun d _ => e1 d, Finset.sum_congr rfl fun i _ => e2 i, Finset.sum_congr rfl fun i _ => e3 i, Finset.sum_const_zero, add_zero]
  have r1 : ∀ d : Fin 64, Re (q ⟨h.val * 96 + d.val, by omega⟩ * k ⟨h.val * 128 + d.val, by omega⟩) := fun d => (hq _).mul (hk _)
  have r2 : ∀ i : Fin 32, Re (spun r Ck Sk i * spun (fun i => q ⟨h.val * 96 + 64 + i.val, by omega⟩) Cq Sq i) := fun i =>
    (Re.spun hr hCk hSk i).mul (Re.spun (fun i => hq _) hCq hSq i)
  rw [sum_mul_fin r1 scale_fin, sum_mul_fin r2 scale_fin, add_mul_fin (Re.sum r1) (Re.sum r2) scale_fin]
  rfl

theorem soft_mix' {N n : ℕ} (hn : n ≤ N) (s : ℕ) (hs : s < n) (σ v : Fin N → EReal) (hσ : ∀ t, Re (σ t)) (hv : ∀ t, Re (v t)) :
    soft (fun t : Fin n => cut s σ ⟨t.val, lt_of_lt_of_le t.isLt hn⟩) (fun t => v ⟨t.val, lt_of_lt_of_le t.isLt hn⟩)
      = ∑ t, v t * Ideal.div (Ideal.exp (cut s σ t - max (Ideal.ofBits .f32 0xFF800000#32) (top (cut s σ))))
          (∑ t, Ideal.exp (cut s σ t - max (Ideal.ofBits .f32 0xFF800000#32) (top (cut s σ)))) := by
  obtain ⟨m, rfl⟩ := Nat.exists_eq_add_of_le hn
  exact soft_cut s hs σ v hσ hv

/-- The attention over the first `n` keys is the attention over all of them. -/
theorem soft_mix {n : ℕ} (hn : n ≤ 2048) (s : ℕ) (hs : s < n) (σ v : Fin 2048 → EReal) (hσ : ∀ t, Re (σ t)) (hv : ∀ t, Re (v t)) :
    soft (fun t : Fin n => cut s σ ⟨t.val, lt_of_lt_of_le t.isLt hn⟩) (fun t => v ⟨t.val, lt_of_lt_of_le t.isLt hn⟩) = mix s σ v :=
  soft_mix' hn s hs σ v hσ hv

theorem Re.logit {h : Fin 6} {q : Fin 576 → EReal} {k : Fin 768 → EReal} {rq rk : Fin 32 → EReal} (hq : ∀ i, Re (q i)) (hk : ∀ i, Re (k i))
    (hrq : ∀ i, Re (rq i)) (hrk : ∀ i, Re (rk i)) : Re (MlaRows.logit h q k rq rk) := by
  unfold MlaRows.logit
  exact ((Re.sum fun d => (hq _).mul (hk _)).add (Re.sum fun i => (hrk _).mul (hrq _))).mul scale_fin

end Cert.MlaRows

end
-- ==== Proof.MlaEntry.lean ====
/- The arrays that the host operations of the latent attention's program hand to its calls, entry by entry. -/
module

public import proofs.«01_k».proof.Proof.MlaPrepArr
public import proofs.«01_k».proof.Proof.MlaAttnArr
public import proofs.«01_k».proof.Proof.MlaAlgebra
public import Idealize.ShloMosaic.Lib.Claim
public import Idealize.ShloMosaic.Lib.StableHlo.RunRead

@[expose] public section

set_option maxRecDepth 16384

noncomputable section

namespace Cert.MlaIdeal.Hand

open Idealize.ShloMosaic Idealize.ShloMosaic.TcCoe Idealize.SL.Sem
open Idealize.ShloMosaic.Pipeline (Dat)
open Cert.MlaIdeal Cert.MlaIdeal.Gen Cert.MlaRows

section Host
variable (σ : Valuation τ sig (Elt Ideal))

/-- The lanes of the cosines. -/
theorem v23_eq : (StableHlo.after hostOps1 σ (Proc.devRef .tc main_v23) : FVec Ideal S32768x128 .f32)
    = concatenate S32768x128 1 [⟨S32768x64, (broadcastInDim S32768x64 ![] bcast_S_S32768x64 (constant (F := Ideal) S_ .f32 0x3F800000#32) : FVec Ideal S32768x64 .f32)⟩, ⟨S32768x16, (StableHlo.after hostOps1 σ (Proc.devRef .tc main_v19) : FVec Ideal S32768x16 .f32)⟩, ⟨S32768x16, (StableHlo.after hostOps1 σ (Proc.devRef .tc main_v19) : FVec Ideal S32768x16 .f32)⟩, ⟨S32768x32, (broadcastInDim S32768x32 ![] bcast_S_S32768x32 (constant (F := Ideal) S_ .f32 0x3F800000#32) : FVec Ideal S32768x32 .f32)⟩] concatenates_S32768x64_S32768x16_S32768x16_S32768x32_S32768x128_d1 := by
  have e0 : StableHlo.upto hostOps1 σ 26 (Proc.devRef .tc main_v21) = (broadcastInDim S32768x64 ![] bcast_S_S32768x64 (constant (F := Ideal) S_ .f32 0x3F800000#32) : FVec Ideal S32768x64 .f32) := by after_reads_simp
  have e1 : StableHlo.upto hostOps1 σ 26 (Proc.devRef .tc main_v19) = (StableHlo.after hostOps1 σ (Proc.devRef .tc main_v19) : FVec Ideal S32768x16 .f32) := by after_reads_simp
  have e2 : StableHlo.upto hostOps1 σ 26 (Proc.devRef .tc main_v22) = (broadcastInDim S32768x32 ![] bcast_S_S32768x32 (constant (F := Ideal) S_ .f32 0x3F800000#32) : FVec Ideal S32768x32 .f32) := by after_reads_simp
  rw [← e0, ← e1, ← e2]
  exact (StableHlo.after_last_write (i := 26) (hostOps1_W.drop 27) rfl rfl (by decide) σ).trans (StableHlo.nary_result _ _ _ _ _ _)

/-- The lanes of the sines. -/
theorem v26_eq : (StableHlo.after hostOps1 σ (Proc.devRef .tc main_v26) : FVec Ideal S32768x128 .f32)
    = concatenate S32768x128 1 [⟨S32768x80, (broadcastInDim S32768x80 ![] bcast_S_S32768x80 (constant (F := Ideal) S_ .f32 0x00000000#32) : FVec Ideal S32768x80 .f32)⟩, ⟨S32768x16, (StableHlo.after hostOps1 σ (Proc.devRef .tc main_v20) : FVec Ideal S32768x16 .f32)⟩, ⟨S32768x32, (broadcastInDim S32768x32 ![] bcast_S_S32768x32 (constant (F := Ideal) S_ .f32 0x00000000#32) : FVec Ideal S32768x32 .f32)⟩] concatenates_S32768x80_S32768x16_S32768x32_S32768x128_d1 := by
  have e0 : StableHlo.upto hostOps1 σ 31 (Proc.devRef .tc main_v24) = (broadcastInDim S32768x80 ![] bcast_S_S32768x80 (constant (F := Ideal) S_ .f32 0x00000000#32) : FVec Ideal S32768x80 .f32) := by after_reads_simp
  have e1 : StableHlo.upto hostOps1 σ 31 (Proc.devRef .tc main_v20) = (StableHlo.after hostOps1 σ (Proc.devRef .tc main_v20) : FVec Ideal S32768x16 .f32) := by after_reads_simp
  have e2 : StableHlo.upto hostOps1 σ 31 (Proc.devRef .tc main_v25) = (broadcastInDim S32768x32 ![] bcast_S_S32768x32 (constant (F := Ideal) S_ .f32 0x00000000#32) : FVec Ideal S32768x32 .f32) := by after_reads_simp
  rw [← e0, ← e1, ← e2]
  exact (StableHlo.after_last_write (i := 31) (hostOps1_W.drop 32) rfl rfl (by decide) σ).trans (StableHlo.nary_result _ _ _ _ _ _)

/-- The lanes of the negated sines. -/
theorem v30_eq : (StableHlo.after hostOps1 σ (Proc.devRef .tc main_v30) : FVec Ideal S32768x128 .f32)
    = concatenate S32768x128 1 [⟨S32768x64, (broadcastInDim S32768x64 ![] bcast_S_S32768x64 (constant (F := Ideal) S_ .f32 0x00000000#32) : FVec Ideal S32768x64 .f32)⟩, ⟨S32768x16, (StableHlo.after hostOps1 σ (Proc.devRef .tc main_v28) : FVec Ideal S32768x16 .f32)⟩, ⟨S32768x48, (broadcastInDim S32768x48 ![] bcast_S_S32768x48 (constant (F := Ideal) S_ .f32 0x00000000#32) : FVec Ideal S32768x48 .f32)⟩] concatenates_S32768x64_S32768x16_S32768x48_S32768x128_d1 := by
  have e0 : StableHlo.upto hostOps1 σ 37 (Proc.devRef .tc main_v27) = (broadcastInDim S32768x64 ![] bcast_S_S32768x64 (constant (F := Ideal) S_ .f32 0x00000000#32) : FVec Ideal S32768x64 .f32) := by after_reads_simp
  have e1 : StableHlo.upto hostOps1 σ 37 (Proc.devRef .tc main_v28) = (StableHlo.after hostOps1 σ (Proc.devRef .tc main_v28) : FVec Ideal S32768x16 .f32) := by after_reads_simp
  have e2 : StableHlo.upto hostOps1 σ 37 (Proc.devRef .tc main_v29) = (broadcastInDim S32768x48 ![] bcast_S_S32768x48 (constant (F := Ideal) S_ .f32 0x00000000#32) : FVec Ideal S32768x48 .f32) := by after_reads_simp
  rw [← e0, ← e1, ← e2]
  exact (StableHlo.after_last_write (i := 37) (hostOps1_W.drop 38) rfl rfl (by decide) σ).trans (StableHlo.nary_result _ _ _ _ _ _)

/-- The last lanes of the latent weights. -/
theorem v41_eq : (StableHlo.after hostOps1 σ (Proc.devRef .tc main_v41) : FVec Ideal S1024x128 .f32)
    = concatenate S1024x128 1 [⟨S1024x8, (extractStridedSlice S1024x8 ![0, 2496] (σ (Proc.devRef .tc main_arg2) : FVec Ideal S1024x2920 .f32) slices_S1024x2920_S1024x8_0_2496 : FVec Ideal S1024x8 .f32)⟩, ⟨S1024x56, (broadcastInDim S1024x56 ![] bcast_S_S1024x56 (constant (F := Ideal) S_ .f32 0x00000000#32) : FVec Ideal S1024x56 .f32)⟩, ⟨S1024x32, (extractStridedSlice S1024x32 ![0, 2888] (σ (Proc.devRef .tc main_arg2) : FVec Ideal S1024x2920 .f32) slices_S1024x2920_S1024x32_0_2888 : FVec Ideal S1024x32 .f32)⟩, ⟨S1024x32, (broadcastInDim S1024x32 ![] bcast_S_S1024x32 (constant (F := Ideal) S_ .f32 0x00000000#32) : FVec Ideal S1024x32 .f32)⟩] concatenates_S1024x8_S1024x56_S1024x32_S1024x32_S1024x128_d1 := by
  have e0 : StableHlo.upto hostOps1 σ 50 (Proc.devRef .tc main_v37) = (extractStridedSlice S1024x8 ![0, 2496] (σ (Proc.devRef .tc main_arg2) : FVec Ideal S1024x2920 .f32) slices_S1024x2920_S1024x8_0_2496 : FVec Ideal S1024x8 .f32) := by after_reads_simp
  have e1 : StableHlo.upto hostOps1 σ 50 (Proc.devRef .tc main_v38) = (broadcastInDim S1024x56 ![] bcast_S_S1024x56 (constant (F := Ideal) S_ .f32 0x00000000#32) : FVec Ideal S1024x56 .f32) := by after_reads_simp
  have e2 : StableHlo.upto hostOps1 σ 50 (Proc.devRef .tc main_v39) = (extractStridedSlice S1024x32 ![0, 2888] (σ (Proc.devRef .tc main_arg2) : FVec Ideal S1024x2920 .f32) slices_S1024x2920_S1024x32_0_2888 : FVec Ideal S1024x32 .f32) := by after_reads_simp
  have e3 : StableHlo.upto hostOps1 σ 50 (Proc.devRef .tc main_v40) = (broadcastInDim S1024x32 ![] bcast_S_S1024x32 (constant (F := Ideal) S_ .f32 0x00000000#32) : FVec Ideal S1024x32 .f32) := by after_reads_simp
  rw [← e0, ← e1, ← e2, ← e3]
  exact (StableHlo.after_last_write (i := 50) (hostOps1_W.drop 51) rfl rfl (by decide) σ).trans (StableHlo.nary_result _ _ _ _ _ _)

/-- The latent weights. -/
theorem v43_eq : (StableHlo.after hostOps1 σ (Proc.devRef .tc main_v43) : FVec Ideal S1024x512 .f32)
    = concatenate S1024x512 1 [⟨S1024x384, (extractStridedSlice S1024x384 ![0, 2504] (σ (Proc.devRef .tc main_arg2) : FVec Ideal S1024x2920 .f32) slices_S1024x2920_S1024x384_0_2504 : FVec Ideal S1024x384 .f32)⟩, ⟨S1024x128, (StableHlo.after hostOps1 σ (Proc.devRef .tc main_v41) : FVec Ideal S1024x128 .f32)⟩] concatenates_S1024x384_S1024x128_S1024x512_d1 := by
  have e0 : StableHlo.upto hostOps1 σ 52 (Proc.devRef .tc main_v42) = (extractStridedSlice S1024x384 ![0, 2504] (σ (Proc.devRef .tc main_arg2) : FVec Ideal S1024x2920 .f32) slices_S1024x2920_S1024x384_0_2504 : FVec Ideal S1024x384 .f32) := by after_reads_simp
  have e1 : StableHlo.upto hostOps1 σ 52 (Proc.devRef .tc main_v41) = (StableHlo.after hostOps1 σ (Proc.devRef .tc main_v41) : FVec Ideal S1024x128 .f32) := by after_reads_simp
  rw [← e0, ← e1]
  exact (StableHlo.after_last_write (i := 52) (hostOps1_W.drop 53) rfl rfl (by decide) σ).trans (StableHlo.binary_result _ _ _ _ _ _ _ _)

theorem v45_eq : (StableHlo.after hostOps1 σ (Proc.devRef .tc main_v45) : FVec Ideal S1024x512 .bf16)
    = (truncf .bf16 (StableHlo.after hostOps1 σ (Proc.devRef .tc main_v43) : FVec Ideal S1024x512 .f32) bitsLt_bf16_f32 : FVec Ideal S1024x512 .bf16) := by
  have e : StableHlo.upto hostOps1 σ 54 (Proc.devRef .tc main_v43) = StableHlo.after hostOps1 σ (Proc.devRef .tc main_v43) := by after_reads_simp
  rw [← e]
  exact (StableHlo.after_last_write (i := 54) (hostOps1_W.drop 55) rfl rfl (by decide) σ).trans (StableHlo.unary_result _ _ _ _ _ _)

theorem v28_eq : (StableHlo.after hostOps1 σ (Proc.devRef .tc main_v28) : FVec Ideal S32768x16 .f32)
    = (Host.negf (StableHlo.after hostOps1 σ (Proc.devRef .tc main_v20) : FVec Ideal S32768x16 .f32) : FVec Ideal S32768x16 .f32) := by
  have e : StableHlo.upto hostOps1 σ 34 (Proc.devRef .tc main_v20) = StableHlo.after hostOps1 σ (Proc.devRef .tc main_v20) := by after_reads_simp
  rw [← e]
  exact (StableHlo.after_last_write (i := 34) (hostOps1_W.drop 35) rfl rfl (by decide) σ).trans (StableHlo.unary_result _ _ _ _ _ _)

/-- The angle of row `T`, as the host takes it from the positions. -/
def angT (T : Fin 32768) : Fin 16 → EReal :=
  ang ((σ (Proc.devRef .tc main_arg1) : IVec S16x2048 32) (ix2 ⟨T.val / 2048, by omega⟩ ⟨T.val % 2048, Nat.mod_lt _ (by omega)⟩))

theorem v19_at (T : Fin 32768) (l : Fin 16) : (StableHlo.after hostOps1 σ (Proc.devRef .tc main_v19) : FVec Ideal S32768x16 .f32) (ix2 T l)
    = Ideal.cos (angT σ T l) := by
  after_reads_simp
  unfold angT ang
  pointwise

theorem v20_at (T : Fin 32768) (l : Fin 16) : (StableHlo.after hostOps1 σ (Proc.devRef .tc main_v20) : FVec Ideal S32768x16 .f32) (ix2 T l)
    = Ideal.sin (angT σ T l) := by
  after_reads_simp
  unfold angT ang
  pointwise

theorem v23_at (T : Fin 32768) (l : Fin 128) : (StableHlo.after hostOps1 σ (Proc.devRef .tc main_v23) : FVec Ideal S32768x128 .f32) (ix2 T l)
    = ct (fun i => Ideal.cos (angT σ T i)) l := by
  rw [v23_eq]
  have h := v19_at σ T
  revert h
  generalize (StableHlo.after hostOps1 σ (Proc.devRef .tc main_v19) : FVec Ideal S32768x16 .f32) = y
  intro h
  unfold ct
  simp only [← h]
  pointwise
  simp only [dite_eq_ite]

theorem v26_at (T : Fin 32768) (l : Fin 128) : (StableHlo.after hostOps1 σ (Proc.devRef .tc main_v26) : FVec Ideal S32768x128 .f32) (ix2 T l)
    = st1 (fun i => Ideal.sin (angT σ T i)) l := by
  rw [v26_eq]
  have h := v20_at σ T
  revert h
  generalize (StableHlo.after hostOps1 σ (Proc.devRef .tc main_v20) : FVec Ideal S32768x16 .f32) = y
  intro h
  unfold st1
  simp only [← h]
  pointwise
  simp only [dite_eq_ite]

theorem v30_at (T : Fin 32768) (l : Fin 128) : (StableHlo.after hostOps1 σ (Proc.devRef .tc main_v30) : FVec Ideal S32768x128 .f32) (ix2 T l)
    = st2 (fun i => Ideal.sin (angT σ T i)) l := by
  rw [v30_eq, v28_eq]
  have h := v20_at σ T
  revert h
  generalize (StableHlo.after hostOps1 σ (Proc.devRef .tc main_v20) : FVec Ideal S32768x16 .f32) = y
  intro h
  unfold st2
  simp only [← h]
  pointwise
  simp only [dite_eq_ite]

theorem v31_at (T : Fin 32768) (k : Fin 1024) : (StableHlo.after hostOps1 σ (Proc.devRef .tc main_v31) : FVec Ideal S32768x1024 .f32) (ix2 T k)
    = (σ (Proc.devRef .tc main_arg0) : FVec Ideal S16x2048x1024 .f32) (ix3 ⟨T.val / 2048, by omega⟩ ⟨T.val % 2048, Nat.mod_lt _ (by omega)⟩ k) := by
  after_reads_simp
  pointwise

theorem v45_low (k : Fin 1024) (j : Fin 512) (h : j.val < 384) : (StableHlo.after hostOps1 σ (Proc.devRef .tc main_v45) : FVec Ideal S1024x512 .bf16) (ix2 k j)
    = (σ (Proc.devRef .tc main_arg2) : FVec Ideal S1024x2920 .f32) (ix2 k ⟨2504 + j.val, by omega⟩) := by
  rw [v45_eq, v43_eq]
  generalize (StableHlo.after hostOps1 σ (Proc.devRef .tc main_v41) : FVec Ideal S1024x128 .f32) = y
  pointwise
  rw [dif_pos h]

theorem v45_high (k : Fin 1024) (j : Fin 32) : (StableHlo.after hostOps1 σ (Proc.devRef .tc main_v45) : FVec Ideal S1024x512 .bf16) (ix2 k ⟨448 + j.val, by omega⟩)
    = (σ (Proc.devRef .tc main_arg2) : FVec Ideal S1024x2920 .f32) (ix2 k ⟨2888 + j.val, by omega⟩) := by
  rw [v45_eq, v43_eq, v41_eq]
  pointwise
  rw [dif_neg (by omega), dif_neg (by omega), dif_neg (by omega), dif_pos (by omega)]
  blk_point []

/-- The contents after the host operations that prepare the projections up. -/
abbrev host2 (σ : Valuation τ sig (Elt Ideal)) : Valuation τ sig (Elt Ideal) :=
  StableHlo.after hostOps2_4 (StableHlo.after hostOps2_3 (StableHlo.after hostOps2_2 (StableHlo.after hostOps2_1 (StableHlo.after hostOps2 σ))))

theorem zero_int : FloatOps.sitofp (F := Ideal) FTy.f32 0#32 = (0 : EReal) := by
  show (((0#32 : BitVec 32).toInt : ℝ) : EReal) = 0
  simp

theorem v56_host (k : Fin 256) (j : Fin 768) : (host2 σ (Proc.devRef .tc main_v56) : FVec Ideal S256x768 .bf16) (ix2 k j)
    = if h : j.val / 128 < 6 ∧ j.val % 128 < 96 then (σ (Proc.devRef .tc main_arg4) : FVec Ideal S256x576 .f32) (ix2 k ⟨j.val / 128 * 96 + j.val % 128, by omega⟩)
      else (0 : EReal) := by
  rw [← zero_int]
  unfold host2
  entry_read
  simp only [StableHlo.TRef.toBuf, StableHlo.TRef.ofBuf, cast_eq]
  generalize σ (Proc.devRef .tc main_arg4) = y
  pointwise

theorem v57_host (k : Fin 128) (j : Fin 768) : (host2 σ (Proc.devRef .tc main_v57) : FVec Ideal S128x768 .bf16) (ix2 k j)
    = if h : j.val / 128 < 6 ∧ j.val % 128 < 64 then (σ (Proc.devRef .tc main_arg6) : FVec Ideal S128x768 .f32) (ix2 k ⟨j.val / 128 * 128 + j.val % 128, by omega⟩)
      else (0 : EReal) := by
  rw [← zero_int]
  unfold host2
  entry_read
  simp only [StableHlo.TRef.toBuf, StableHlo.TRef.ofBuf, cast_eq]
  generalize σ (Proc.devRef .tc main_arg6) = y
  pointwise

theorem v58_host (k : Fin 128) (j : Fin 384) : (host2 σ (Proc.devRef .tc main_v58) : FVec Ideal S128x384 .bf16) (ix2 k j)
    = (σ (Proc.devRef .tc main_arg6) : FVec Ideal S128x768 .f32) (ix2 k ⟨j.val / 64 * 128 + (64 + j.val % 64), by omega⟩) := by
  unfold host2
  entry_read
  generalize σ (Proc.devRef .tc main_arg6) = y
  pointwise

theorem v59_host (k : Fin 256) : (host2 σ (Proc.devRef .tc main_v59) : FVec Ideal S1x256 .f32) (ix2 0 k) = (σ (Proc.devRef .tc main_arg3) : FVec Ideal S256 .f32) (ix1 k) := by
  unfold host2
  entry_read
  generalize σ (Proc.devRef .tc main_arg3) = y
  pointwise

theorem v60_host (k : Fin 128) : (host2 σ (Proc.devRef .tc main_v60) : FVec Ideal S1x128 .f32) (ix2 0 k) = (σ (Proc.devRef .tc main_arg5) : FVec Ideal S128 .f32) (ix1 k) := by
  unfold host2
  entry_read
  generalize σ (Proc.devRef .tc main_arg5) = y
  pointwise

theorem v62_host (b : Fin 16) (s : Fin 2048) (j : Fin 768) : (StableHlo.after hostOps3 σ (Proc.devRef .tc main_v62) : FVec Ideal S16x2048x768 .bf16) (ix3 b s j)
    = (σ (Proc.devRef .tc main_v61_0) : FVec Ideal S32768x768 .bf16) (ix2 ⟨b.val * 2048 + s.val, by omega⟩ j) := by
  entry_read
  generalize σ (Proc.devRef .tc main_v61_0) = y
  pointwise

theorem v63_host (b : Fin 16) (s : Fin 2048) (j : Fin 768) : (StableHlo.after hostOps3 σ (Proc.devRef .tc main_v63) : FVec Ideal S16x2048x768 .bf16) (ix3 b s j)
    = (σ (Proc.devRef .tc main_v61_1) : FVec Ideal S32768x768 .bf16) (ix2 ⟨b.val * 2048 + s.val, by omega⟩ j) := by
  entry_read
  generalize σ (Proc.devRef .tc main_v61_1) = y
  pointwise

theorem v64_host (b : Fin 16) (s : Fin 2048) (j : Fin 384) : (StableHlo.after hostOps3 σ (Proc.devRef .tc main_v64) : FVec Ideal S16x2048x384 .bf16) (ix3 b s j)
    = (σ (Proc.devRef .tc main_v61_2) : FVec Ideal S32768x384 .bf16) (ix2 ⟨b.val * 2048 + s.val, by omega⟩ j) := by
  entry_read
  generalize σ (Proc.devRef .tc main_v61_2) = y
  pointwise

theorem v1_host (l : Fin 2304) : (StableHlo.after hostOps0 σ (Proc.devRef .tc main_v1) : FVec Ideal S1x1x2304 .f32) (ix3 0 0 l) = (0 : EReal) := by
  entry_read
  pointwise

end Host

end Cert.MlaIdeal.Hand

end
-- ==== Proof.MlaFinal.lean ====
/- The latent attention's result array is the reference's, when the arguments that enter it are finite. -/
module

public import proofs.«01_k».proof.Proof.MlaEntry

@[expose] public section

set_option maxRecDepth 16384

noncomputable section

namespace Cert.MlaIdeal.Hand

open Idealize.ShloMosaic Idealize.ShloMosaic.TcCoe Idealize.SL.Sem
open Idealize.ShloMosaic.Pipeline (Dat)
open Cert.MlaIdeal Cert.MlaIdeal.Gen Cert.MlaRows
open Cert.MlaRefIdeal.Hand (L Q KV RQ RK LG CS SN ref)

variable (m : (ℓ : Loc nD τ sig) → Buf (Elt Ideal) ℓ) (ρ : Dev nD → PrngReg)

/-- The arguments. -/
abbrev X (c : Dev nD) : FVec Ideal S16x2048x1024 .f32 := m ((c.tc : Thread nD τ).loc main_arg0)
abbrev P (c : Dev nD) : IVec S16x2048 32 := m ((c.tc : Thread nD τ).loc main_arg1)
abbrev WI (c : Dev nD) : FVec Ideal S1024x2920 .f32 := m ((c.tc : Thread nD τ).loc main_arg2)
abbrev GQ (c : Dev nD) : FVec Ideal S256 .f32 := m ((c.tc : Thread nD τ).loc main_arg3)
abbrev WQ (c : Dev nD) : FVec Ideal S256x576 .f32 := m ((c.tc : Thread nD τ).loc main_arg4)
abbrev GK (c : Dev nD) : FVec Ideal S128 .f32 := m ((c.tc : Thread nD τ).loc main_arg5)
abbrev WK (c : Dev nD) : FVec Ideal S128x768 .f32 := m ((c.tc : Thread nD τ).loc main_arg6)

/-- The arrays that enter the calls. -/
def aTab (c : Dev nD) : FVec Ideal S1x256x2048 .f32 := V11 m ρ c main_v2
def aZero (c : Dev nD) : FVec Ideal S1x1x2304 .f32 := V1 m ρ c main_v1
def aX (c : Dev nD) : FVec Ideal S32768x1024 .f32 := V3 m ρ c main_v31
def aW (c : Dev nD) : FVec Ideal S1024x512 .bf16 := V3 m ρ c main_v45
def aLat (c : Dev nD) : FVec Ideal S32768x512 .f32 := V9 m ρ c main_v46
def aCos (c : Dev nD) : FVec Ideal S32768x128 .f32 := V9 m ρ c main_v23
def aSin (c : Dev nD) : FVec Ideal S32768x128 .f32 := V9 m ρ c main_v26
def aNsin (c : Dev nD) : FVec Ideal S32768x128 .f32 := V9 m ρ c main_v30
def aWq (c : Dev nD) : FVec Ideal S256x768 .bf16 := V9 m ρ c main_v56
def aWk (c : Dev nD) : FVec Ideal S128x768 .bf16 := V9 m ρ c main_v57
def aWv (c : Dev nD) : FVec Ideal S128x384 .bf16 := V9 m ρ c main_v58
def aGq (c : Dev nD) : FVec Ideal S1x256 .f32 := V9 m ρ c main_v59
def aGk (c : Dev nD) : FVec Ideal S1x128 .f32 := V9 m ρ c main_v60
def aQ (c : Dev nD) : FVec Ideal S16x2048x768 .bf16 := V11 m ρ c main_v62
def aK (c : Dev nD) : FVec Ideal S16x2048x768 .bf16 := V11 m ρ c main_v63
def aV (c : Dev nD) : FVec Ideal S16x2048x384 .bf16 := V11 m ρ c main_v64
def uQ (c : Dev nD) : FVec Ideal S32768x768 .bf16 := W10 m ρ c (Proc.devRef .tc main_v61_0)
def uK (c : Dev nD) : FVec Ideal S32768x768 .bf16 := W10 m ρ c (Proc.devRef .tc main_v61_1)
def uV (c : Dev nD) : FVec Ideal S32768x384 .bf16 := W10 m ρ c (Proc.devRef .tc main_v61_2)

/-- The flattened row of position `s` of batch `b`. -/
def row (b : Fin 16) (s : Fin 2048) : Fin 32768 := ⟨b.val * 2048 + s.val, by omega⟩

theorem row_div (b : Fin 16) (s : Fin 2048) (h : (row b s).val / 2048 < 16) : (⟨(row b s).val / 2048, h⟩ : Fin 16) = b :=
  Fin.ext (by show (b.val * 2048 + s.val) / 2048 = b.val; omega)
theorem row_mod (b : Fin 16) (s : Fin 2048) (h : (row b s).val % 2048 < 2048) : (⟨(row b s).val % 2048, h⟩ : Fin 2048) = s :=
  Fin.ext (by show (b.val * 2048 + s.val) % 2048 = s.val; omega)

/-! ### The table -/

theorem v1_at (c : Dev nD) (l : Fin 2304) : aZero m ρ c (ix3 0 0 l) = (0 : EReal) := v1_host (W0 m ρ c) l

theorem v2_arr (c : Dev nD) : aTab m ρ c = tableArr (aZero m ρ c) :=
  (W11_of m ρ c main_v2 (by decide)).trans <| (W10_of m ρ c main_v2 (by decide)).trans <| (W9_of m ρ c main_v2 (by decide)).trans <|
    (W8_of m ρ c main_v2 (by decide)).trans <| (W7_of m ρ c main_v2 (by decide)).trans <| (W6_of m ρ c main_v2 (by decide)).trans <|
    (W5_of m ρ c main_v2 (by decide)).trans <| (W4_of m ρ c main_v2 (by decide)).trans <| (W3_of m ρ c main_v2 (by decide)).trans <|
    (W2_arr m ρ c 1).trans (final0 (V1 m ρ) c)

theorem table_at (c : Dev nD) (r : Fin 256) (l : Fin 2048) : aTab m ρ c (ix3 0 r l) = if r.val + 1792 < l.val then (⊥ : EReal) else 0 := by
  rw [v2_arr]
  show (if r.val + 1792 < l.val then (⊥ : EReal) else aZero m ρ c (ix3 0 0 ⟨l.val, _⟩)) = _
  rw [v1_at]

/-! ### The latent rows -/

theorem v31_row (c : Dev nD) (b : Fin 16) (s : Fin 2048) (k : Fin 1024) : aX m ρ c (ix2 (row b s) k) = X m c (ix3 b s k) := by
  refine (v31_at (W2 m ρ c) (row b s) k).trans ?_
  rw [row_div, row_mod]
  exact congrFun (W2_args m ρ c main_arg0 (by decide)) _

theorem v46_arr (c : Dev nD) : aLat m ρ c = downArr (aX m ρ c) (aW m ρ c) :=
  (W9_of m ρ c main_v46 (by decide)).trans <| (W8_of m ρ c main_v46 (by decide)).trans <| (W7_of m ρ c main_v46 (by decide)).trans <|
    (W6_of m ρ c main_v46 (by decide)).trans <| (W5_of m ρ c main_v46 (by decide)).trans <| (W4_arr m ρ c 2).trans (final1 (V3 m ρ) c)

theorem aW_low (c : Dev nD) (k : Fin 1024) (j : Fin 512) (h : j.val < 384) : aW m ρ c (ix2 k j) = WI m c (ix2 k ⟨2504 + j.val, by omega⟩) :=
  (v45_low (W2 m ρ c) k j h).trans (congrFun (W2_args m ρ c main_arg2 (by decide)) _)

theorem aW_high (c : Dev nD) (k : Fin 1024) (j : Fin 32) : aW m ρ c (ix2 k ⟨448 + j.val, by omega⟩) = WI m c (ix2 k ⟨2888 + j.val, by omega⟩) :=
  (v45_high (W2 m ρ c) k j).trans (congrFun (W2_args m ρ c main_arg2 (by decide)) _)

theorem down_at (c : Dev nD) (b : Fin 16) (s : Fin 2048) (j : Fin 512) : aLat m ρ c (ix2 (row b s) j)
    = ∑ k : Fin 1024, X m c (ix3 b s k) * aW m ρ c (ix2 k j) := by
  rw [v46_arr]
  unfold downArr
  simp only [← v31_row m ρ]
  rfl

theorem down_low (c : Dev nD) (b : Fin 16) (s : Fin 2048) (j : Fin 512) (h : j.val < 384) :
    aLat m ρ c (ix2 (row b s) j) = L (X m c) (WI m c) b s ⟨j.val, by omega⟩ := by
  rw [down_at]
  unfold Cert.MlaRefIdeal.Hand.L lat
  exact Finset.sum_congr rfl fun k _ => by rw [aW_low m ρ c k j h]

theorem down_high (c : Dev nD) (b : Fin 16) (s : Fin 2048) (i : Fin 32) :
    aLat m ρ c (ix2 (row b s) ⟨448 + i.val, by omega⟩) = L (X m c) (WI m c) b s ⟨384 + i.val, by omega⟩ := by
  rw [down_at]
  unfold Cert.MlaRefIdeal.Hand.L lat
  have e : (⟨2888 + i.val, by omega⟩ : Fin 2920) = ⟨2504 + (384 + i.val), by omega⟩ := Fin.ext (by show 2888 + i.val = 2504 + (384 + i.val); omega)
  exact Finset.sum_congr rfl fun k _ => by rw [aW_high m ρ c k i, e]

/-! ### The tables of the turn -/

/-- The angles of a position. -/
def angs (c : Dev nD) (b : Fin 16) (s : Fin 2048) : Fin 16 → EReal := ang (P m c (ix2 b s))

theorem angT_row (c : Dev nD) (b : Fin 16) (s : Fin 2048) : angT (W2 m ρ c) (row b s) = angs m c b s := by
  unfold angT angs
  rw [row_div, row_mod]
  exact congrArg ang (congrFun (W2_args m ρ c main_arg1 (by decide)) _)

theorem cos_row (c : Dev nD) (b : Fin 16) (s : Fin 2048) (l : Fin 128) :
    aCos m ρ c (ix2 (row b s) l) = ct (fun i => Ideal.cos (angs m c b s i)) l := by
  rw [← angT_row m ρ]
  refine Eq.trans (congrFun (?_ : aCos m ρ c = _) (ix2 (row b s) l)) (v23_at (W2 m ρ c) (row b s) l)
  exact (W9_of m ρ c main_v23 (by decide)).trans <| (W8_of m ρ c main_v23 (by decide)).trans <| (W7_of m ρ c main_v23 (by decide)).trans <|
    (W6_of m ρ c main_v23 (by decide)).trans <| (W5_of m ρ c main_v23 (by decide)).trans <| W4_of m ρ c main_v23 (by decide)

theorem sin_row (c : Dev nD) (b : Fin 16) (s : Fin 2048) (l : Fin 128) :
    aSin m ρ c (ix2 (row b s) l) = st1 (fun i => Ideal.sin (angs m c b s i)) l := by
  rw [← angT_row m ρ]
  refine Eq.trans (congrFun (?_ : aSin m ρ c = _) (ix2 (row b s) l)) (v26_at (W2 m ρ c) (row b s) l)
  exact (W9_of m ρ c main_v26 (by decide)).trans <| (W8_of m ρ c main_v26 (by decide)).trans <| (W7_of m ρ c main_v26 (by decide)).trans <|
    (W6_of m ρ c main_v26 (by decide)).trans <| (W5_of m ρ c main_v26 (by decide)).trans <| W4_of m ρ c main_v26 (by decide)

theorem nsin_row (c : Dev nD) (b : Fin 16) (s : Fin 2048) (l : Fin 128) :
    aNsin m ρ c (ix2 (row b s) l) = st2 (fun i => Ideal.sin (angs m c b s i)) l := by
  rw [← angT_row m ρ]
  refine Eq.trans (congrFun (?_ : aNsin m ρ c = _) (ix2 (row b s) l)) (v30_at (W2 m ρ c) (row b s) l)
  exact (W9_of m ρ c main_v30 (by decide)).trans <| (W8_of m ρ c main_v30 (by decide)).trans <| (W7_of m ρ c main_v30 (by decide)).trans <|
    (W6_of m ρ c main_v30 (by decide)).trans <| (W5_of m ρ c main_v30 (by decide)).trans <| W4_of m ρ c main_v30 (by decide)

/-! ### The weights of the projections up -/

theorem v56_at (c : Dev nD) (k : Fin 256) (j : Fin 768) : aWq m ρ c (ix2 k j)
    = if h : j.val / 128 < 6 ∧ j.val % 128 < 96 then WQ m c (ix2 k ⟨j.val / 128 * 96 + j.val % 128, by omega⟩) else (0 : EReal) := by
  have e : (W4 m ρ c (Proc.devRef .tc main_arg4) : FVec Ideal S256x576 .f32) = WQ m c := W4_args m ρ c main_arg4 (by decide)
  rw [← e]
  exact v56_host (W4 m ρ c) k j

theorem v57_at (c : Dev nD) (k : Fin 128) (j : Fin 768) : aWk m ρ c (ix2 k j)
    = if h : j.val / 128 < 6 ∧ j.val % 128 < 64 then WK m c (ix2 k ⟨j.val / 128 * 128 + j.val % 128, by omega⟩) else (0 : EReal) := by
  have e : (W4 m ρ c (Proc.devRef .tc main_arg6) : FVec Ideal S128x768 .f32) = WK m c := W4_args m ρ c main_arg6 (by decide)
  rw [← e]
  exact v57_host (W4 m ρ c) k j

theorem v58_at (c : Dev nD) (k : Fin 128) (j : Fin 384) : aWv m ρ c (ix2 k j) = WK m c (ix2 k ⟨j.val / 64 * 128 + (64 + j.val % 64), by omega⟩) := by
  have e : (W4 m ρ c (Proc.devRef .tc main_arg6) : FVec Ideal S128x768 .f32) = WK m c := W4_args m ρ c main_arg6 (by decide)
  rw [← e]
  exact v58_host (W4 m ρ c) k j

theorem v59_at (c : Dev nD) (k : Fin 256) : aGq m ρ c (ix2 0 k) = GQ m c (ix1 k) :=
  (v59_host (W4 m ρ c) k).trans (congrFun (W4_args m ρ c main_arg3 (by decide)) _)

theorem v60_at (c : Dev nD) (k : Fin 128) : aGk m ρ c (ix2 0 k) = GK m c (ix1 k) :=
  (v60_host (W4 m ρ c) k).trans (congrFun (W4_args m ρ c main_arg5 (by decide)) _)

theorem uQ_eq (c : Dev nD) : uQ m ρ c = upQArr (aLat m ρ c) (aGq m ρ c) (aWq m ρ c) (aCos m ρ c) (aSin m ρ c) (aNsin m ρ c) :=
  (W10_arr m ρ c 9).trans (final9 (V9 m ρ) c)
theorem uK_eq (c : Dev nD) : uK m ρ c = upKArr (aLat m ρ c) (aGk m ρ c) (aWk m ρ c) (aCos m ρ c) (aSin m ρ c) (aNsin m ρ c) :=
  (W10_arr m ρ c 10).trans (final10 (V9 m ρ) c)
theorem uV_eq (c : Dev nD) : uV m ρ c = upVArr (aLat m ρ c) (aGk m ρ c) (aWv m ρ c) :=
  (W10_arr m ρ c 11).trans (final11 (V9 m ρ) c)

/-! ### The queries, keys and values that the attention reads -/

/-- The lanes of a head's queries: 96 of the projection, 32 zeros; of its keys: 64 and 64 zeros. -/
def padQ (c : Dev nD) (b : Fin 16) (s : Fin 2048) (h : Fin 6) (l : Fin 128) : EReal :=
  if hl : l.val < 96 then Q (X m c) (WI m c) (GQ m c) (WQ m c) b s ⟨h.val * 96 + l.val, by omega⟩ else 0
def padK (c : Dev nD) (b : Fin 16) (s : Fin 2048) (h : Fin 6) (l : Fin 128) : EReal :=
  if l.val < 64 then KV (X m c) (WI m c) (GK m c) (WK m c) b s ⟨h.val * 128 + l.val, by omega⟩ else 0
/-- The lanes of the latent row that every head turns. -/
def shared (c : Dev nD) (b : Fin 16) (s : Fin 2048) (l : Fin 128) : EReal :=
  aLat m ρ c (ix2 (row b s) ⟨384 + l.val, by omega⟩)

theorem proj_q (c : Dev nD) (b : Fin 16) (s : Fin 2048) (h : Fin 6) (l : Fin 128) :
    ∑ k, rms (Ideal.ofBits .f32 0x43800000#32) (fun k : Fin 256 => aLat m ρ c (ix2 (row b s) ⟨k.val, by omega⟩))
        (fun k => aGq m ρ c (ix2 0 k)) k * aWq m ρ c (ix2 k ⟨h.val * 128 + l.val, by omega⟩)
      = padQ m c b s h l := by
  have e1 : (fun k : Fin 256 => aLat m ρ c (ix2 (row b s) ⟨k.val, by omega⟩))
      = fun k : Fin 256 => L (X m c) (WI m c) b s ⟨k.val, by omega⟩ := funext fun k => down_low m ρ c b s ⟨k.val, by omega⟩ (by show k.val < 384; omega)
  have e2 : (fun k => aGq m ρ c (ix2 0 k)) = fun k => GQ m c (ix1 k) := funext fun k => v59_at m ρ c k
  have d : (h.val * 128 + l.val) / 128 = h.val := by omega
  have r : (h.val * 128 + l.val) % 128 = l.val := by omega
  rw [e1, e2]
  unfold padQ
  by_cases hl : l.val < 96
  · rw [dif_pos hl]
    unfold Q qp
    have e3 : (⟨(h.val * 128 + l.val) / 128 * 96 + (h.val * 128 + l.val) % 128, by omega⟩ : Fin 576) = ⟨h.val * 96 + l.val, by omega⟩ :=
      Fin.ext (by show (h.val * 128 + l.val) / 128 * 96 + (h.val * 128 + l.val) % 128 = h.val * 96 + l.val; rw [d, r])
    have hp : (h.val * 128 + l.val) / 128 < 6 ∧ (h.val * 128 + l.val) % 128 < 96 := by omega
    exact Finset.sum_congr rfl fun k _ => by rw [v56_at, dif_pos hp, e3]
  · rw [dif_neg hl]
    have hp : ¬ ((h.val * 128 + l.val) / 128 < 6 ∧ (h.val * 128 + l.val) % 128 < 96) := by omega
    exact Finset.sum_eq_zero fun k _ => by rw [v56_at, dif_neg hp, mul_zero]

theorem proj_kv (c : Dev nD) (b : Fin 16) (s : Fin 2048) (w : Fin 128 → EReal) (j : Fin 768) (hw : ∀ k, w k = WK m c (ix2 k j)) :
    ∑ k, rms (Ideal.ofBits .f32 0x43000000#32) (fun k : Fin 128 => aLat m ρ c (ix2 (row b s) ⟨256 + k.val, by omega⟩))
        (fun k => aGk m ρ c (ix2 0 k)) k * w k
      = KV (X m c) (WI m c) (GK m c) (WK m c) b s j := by
  have e1 : (fun k : Fin 128 => aLat m ρ c (ix2 (row b s) ⟨256 + k.val, by omega⟩))
      = fun k : Fin 128 => L (X m c) (WI m c) b s ⟨256 + k.val, by omega⟩ := funext fun k => down_low m ρ c b s ⟨256 + k.val, by omega⟩ (by show 256 + k.val < 384; omega)
  have e2 : (fun k => aGk m ρ c (ix2 0 k)) = fun k => GK m c (ix1 k) := funext fun k => v60_at m ρ c k
  rw [e1, e2]
  unfold KV kvp
  exact Finset.sum_congr rfl fun k _ => by rw [hw k]

theorem proj_k (c : Dev nD) (b : Fin 16) (s : Fin 2048) (h : Fin 6) (l : Fin 128) :
    ∑ k, rms (Ideal.ofBits .f32 0x43000000#32) (fun k : Fin 128 => aLat m ρ c (ix2 (row b s) ⟨256 + k.val, by omega⟩))
        (fun k => aGk m ρ c (ix2 0 k)) k * aWk m ρ c (ix2 k ⟨h.val * 128 + l.val, by omega⟩)
      = padK m c b s h l := by
  unfold padK
  by_cases hl : l.val < 64
  · rw [if_pos hl]
    have e3 : (⟨(h.val * 128 + l.val) / 128 * 128 + (h.val * 128 + l.val) % 128, by omega⟩ : Fin 768) = ⟨h.val * 128 + l.val, by omega⟩ :=
      Fin.ext (by show (h.val * 128 + l.val) / 128 * 128 + (h.val * 128 + l.val) % 128 = h.val * 128 + l.val; omega)
    have hp : (h.val * 128 + l.val) / 128 < 6 ∧ (h.val * 128 + l.val) % 128 < 64 := by omega
    exact proj_kv m ρ c b s _ _ fun k => by rw [v57_at, dif_pos hp, e3]
  · rw [if_neg hl]
    have hp : ¬ ((h.val * 128 + l.val) / 128 < 6 ∧ (h.val * 128 + l.val) % 128 < 64) := by omega
    exact Finset.sum_eq_zero fun k _ => by rw [v57_at, dif_neg hp, mul_zero]

/-- The queries. -/
theorem q_at (c : Dev nD) (b : Fin 16) (s : Fin 2048) (h : Fin 6) (l : Fin 128) :
    aQ m ρ c (ix3 b s ⟨h.val * 128 + l.val, by omega⟩)
      = turn (padQ m c b s h) (ct fun i => Ideal.cos (angs m c b s i)) (st1 fun i => Ideal.sin (angs m c b s i)) (st2 fun i => Ideal.sin (angs m c b s i)) l
          * Ideal.ofBits .f32 0x3DD105EC#32 := by
  have e : aQ m ρ c (ix3 b s ⟨h.val * 128 + l.val, by omega⟩) = uQ m ρ c (ix2 (row b s) ⟨h.val * 128 + l.val, by omega⟩) := v62_host (W10 m ρ c) b s _
  have d : (h.val * 128 + l.val) / 128 = h.val := by omega
  have r : (⟨(h.val * 128 + l.val) % 128, Nat.mod_lt _ (by omega)⟩ : Fin 128) = l := Fin.ext (by show (h.val * 128 + l.val) % 128 = l.val; omega)
  rw [e, uQ_eq]
  show upQ (aLat m ρ c) (aGq m ρ c) (aWq m ρ c) (aCos m ρ c) (aSin m ρ c) (aNsin m ρ c) (row b s) ⟨h.val * 128 + l.val, by omega⟩ = _
  unfold upQ
  simp only [d, r, proj_q m ρ c b s h, cos_row, sin_row, nsin_row]

/-- The keys. -/
theorem k_at (c : Dev nD) (b : Fin 16) (s : Fin 2048) (h : Fin 6) (l : Fin 128) :
    aK m ρ c (ix3 b s ⟨h.val * 128 + l.val, by omega⟩)
      = padK m c b s h l + if 64 ≤ l.val ∧ l.val < 96 then turn (shared m ρ c b s) (ct fun i => Ideal.cos (angs m c b s i))
          (st1 fun i => Ideal.sin (angs m c b s i)) (st2 fun i => Ideal.sin (angs m c b s i)) l else 0 := by
  have e : aK m ρ c (ix3 b s ⟨h.val * 128 + l.val, by omega⟩) = uK m ρ c (ix2 (row b s) ⟨h.val * 128 + l.val, by omega⟩) := v63_host (W10 m ρ c) b s _
  have d : (h.val * 128 + l.val) % 128 = l.val := by omega
  have r : (⟨(h.val * 128 + l.val) % 128, Nat.mod_lt _ (by omega)⟩ : Fin 128) = l := Fin.ext d
  rw [e, uK_eq]
  show upK (aLat m ρ c) (aGk m ρ c) (aWk m ρ c) (aCos m ρ c) (aSin m ρ c) (aNsin m ρ c) (row b s) ⟨h.val * 128 + l.val, by omega⟩ = _
  unfold upK
  rw [proj_k m ρ c b s h l]
  simp only [r, d, cos_row, sin_row, nsin_row]
  rfl

/-- The values. -/
theorem val_at (c : Dev nD) (b : Fin 16) (s : Fin 2048) (j : Fin 384) :
    aV m ρ c (ix3 b s j) = KV (X m c) (WI m c) (GK m c) (WK m c) b s ⟨j.val / 64 * 128 + 64 + j.val % 64, by omega⟩ := by
  have e : aV m ρ c (ix3 b s j) = uV m ρ c (ix2 (row b s) j) := v64_host (W10 m ρ c) b s j
  have e3 : (⟨j.val / 64 * 128 + (64 + j.val % 64), by omega⟩ : Fin 768) = ⟨j.val / 64 * 128 + 64 + j.val % 64, by omega⟩ :=
    Fin.ext (by show j.val / 64 * 128 + (64 + j.val % 64) = j.val / 64 * 128 + 64 + j.val % 64; omega)
  rw [e, uV_eq]
  show upV (aLat m ρ c) (aGk m ρ c) (aWv m ρ c) (row b s) j = _
  unfold upV
  exact proj_kv m ρ c b s _ _ fun k => by rw [v58_at, e3]

/-! ### The angles of the reference -/

theorem CS_eq (c : Dev nD) (b : Fin 16) (s : Fin 2048) : CS (P m c) b s = fun i => Ideal.cos (angs m c b s i) := by
  funext i
  unfold CS angs ang
  pointwise [MlaRefIdeal.Read.val_main_v50, MlaRefIdeal.Read.val_main_v49, MlaRefIdeal.Read.val_main_v48, MlaRefIdeal.Read.val_main_v47,
    MlaRefIdeal.Read.val_main_v46, MlaRefIdeal.Read.val_main_v45, MlaRefIdeal.Read.val_main_v44, MlaRefIdeal.Read.val_main_v43,
    MlaRefIdeal.Read.val_main_v42, MlaRefIdeal.Read.val_main_v41, MlaRefIdeal.Read.val_main_v40, MlaRefIdeal.Read.val_main_v39,
    MlaRefIdeal.Read.val_main_v38, MlaRefIdeal.Read.val_main_v37, MlaRefIdeal.Read.val_main_v36, MlaRefIdeal.Read.val_main_v35,
    MlaRefIdeal.Read.val_main_v34, MlaRefIdeal.Read.val_main_cst_5, MlaRefIdeal.Read.val_main_cst_6, MlaRefIdeal.Read.val_main_cst_7,
    MlaRefIdeal.Read.val_main_cst_8]

theorem SN_eq (c : Dev nD) (b : Fin 16) (s : Fin 2048) : SN (P m c) b s = fun i => Ideal.sin (angs m c b s i) := by
  funext i
  unfold SN angs ang
  pointwise [MlaRefIdeal.Read.val_main_v51, MlaRefIdeal.Read.val_main_v49, MlaRefIdeal.Read.val_main_v48, MlaRefIdeal.Read.val_main_v47,
    MlaRefIdeal.Read.val_main_v46, MlaRefIdeal.Read.val_main_v45, MlaRefIdeal.Read.val_main_v44, MlaRefIdeal.Read.val_main_v43,
    MlaRefIdeal.Read.val_main_v42, MlaRefIdeal.Read.val_main_v41, MlaRefIdeal.Read.val_main_v40, MlaRefIdeal.Read.val_main_v39,
    MlaRefIdeal.Read.val_main_v38, MlaRefIdeal.Read.val_main_v37, MlaRefIdeal.Read.val_main_v36, MlaRefIdeal.Read.val_main_v35,
    MlaRefIdeal.Read.val_main_v34, MlaRefIdeal.Read.val_main_cst_5, MlaRefIdeal.Read.val_main_cst_6, MlaRefIdeal.Read.val_main_cst_7,
    MlaRefIdeal.Read.val_main_cst_8]

/-! ### The result -/

section Finite
variable (c : Dev nD) (hX : ∀ i, Re (X m c i)) (hWI : ∀ i, Re (WI m c i)) (hGQ : ∀ i, Re (GQ m c i)) (hWQ : ∀ i, Re (WQ m c i))
  (hGK : ∀ i, Re (GK m c i)) (hWK : ∀ i, Re (WK m c i))
include hX hWI

theorem L_fin (b : Fin 16) (s : Fin 2048) (j : Fin 416) : Re (L (X m c) (WI m c) b s j) := by
  unfold Cert.MlaRefIdeal.Hand.L lat
  exact Re.sum fun _ => (hX _).mul (hWI _)

include hGQ hWQ in
theorem Q_fin (b : Fin 16) (s : Fin 2048) (j : Fin 576) : Re (Q (X m c) (WI m c) (GQ m c) (WQ m c) b s j) := by
  unfold Q qp
  exact Re.sum fun k => (Re.rms 256 (by norm_num) width_q (fun _ => L_fin m c hX hWI b s _) (fun _ => hGQ _) k).mul (hWQ _)

include hGK hWK in
theorem KV_fin (b : Fin 16) (s : Fin 2048) (j : Fin 768) : Re (KV (X m c) (WI m c) (GK m c) (WK m c) b s j) := by
  unfold KV kvp
  exact Re.sum fun k => (Re.rms 128 (by norm_num) width_kv (fun _ => L_fin m c hX hWI b s _) (fun _ => hGK _) k).mul (hWK _)

omit hX hWI in
theorem C_fin (b : Fin 16) (s : Fin 2048) (i : Fin 16) : Re (Ideal.cos (angs m c b s i)) := Re.cos (Re.ang _ _)
omit hX hWI in
theorem S_fin (b : Fin 16) (s : Fin 2048) (i : Fin 16) : Re (Ideal.sin (angs m c b s i)) := Re.sin (Re.ang _ _)

include hGQ hWQ hGK hWK

/-- The sum over a head's lanes is the reference's logit. -/
theorem score (b : Fin 16) (h : Fin 6) (s t : Fin 2048) :
    ∑ l : Fin 128, aQ m ρ c (ix3 b s ⟨h.val * 128 + l.val, by omega⟩)
        * aK m ρ c (ix3 b t ⟨h.val * 128 + l.val, by omega⟩)
      = LG (X m c) (P m c) (WI m c) (GQ m c) (WQ m c) (GK m c) (WK m c) b h s t := by
  simp only [q_at, k_at]
  unfold LG RQ RK
  simp only [CS_eq, SN_eq]
  refine logit_lanes h (padQ m c b s h) (padK m c b t h) (shared m ρ c b t) (Q (X m c) (WI m c) (GQ m c) (WQ m c) b s)
    (KV (X m c) (WI m c) (GK m c) (WK m c) b t) (fun i => L (X m c) (WI m c) b t ⟨384 + i.val, by omega⟩) _ _ _ _
    (fun l hl => dif_pos hl) (fun l hl => dif_neg (by omega)) (fun l hl => if_pos hl) (fun l hl => if_neg (by omega)) (fun i => ?_)
    (Q_fin m c hX hWI hGQ hWQ b s) (KV_fin m c hX hWI hGK hWK b t) (fun i => L_fin m c hX hWI b t _) (C_fin m c b s) (S_fin m c b s) (C_fin m c b t) (S_fin m c b t)
  refine Eq.trans ?_ (down_high m ρ c b t i)
  exact congrArg (aLat m ρ c) (congrArg (ix2 (row b t)) (Fin.ext (by show 384 + (64 + i.val) = 448 + i.val; omega)))

theorem LG_fin (b : Fin 16) (h : Fin 6) (s t : Fin 2048) : Re (LG (X m c) (P m c) (WI m c) (GQ m c) (WQ m c) (GK m c) (WK m c) b h s t) := by
  unfold LG RQ RK
  simp only [CS_eq, SN_eq]
  exact Re.logit (Q_fin m c hX hWI hGQ hWQ b s) (KV_fin m c hX hWI hGK hWK b t)
    (Re.spun (fun _ => Q_fin m c hX hWI hGQ hWQ b s _) (C_fin m c b s) (S_fin m c b s))
    (Re.spun (fun _ => L_fin m c hX hWI b t _) (C_fin m c b t) (S_fin m c b t))

/-- The attention's result array is the reference's. -/
theorem result (b : Fin 16) (s : Fin 2048) (j : Fin 384) :
    attn (aQ m ρ c) (aK m ρ c) (aV m ρ c) (aTab m ρ c) b s j
      = ref (X m c) (P m c) (WI m c) (GQ m c) (WQ m c) (GK m c) (WK m c) b s j := by
  have hk : keys s = (s.val / 256 + 1) * 256 := rfl
  have hs : s.val < keys s := by omega
  refine Eq.trans ?_ (soft_mix (keys_le s) s.val hs _ _ (LG_fin m c hX hWI hGQ hWQ hGK hWK b ⟨j.val / 64, by omega⟩ s) (fun t => KV_fin m c hX hWI hGK hWK b t _))
  unfold attn
  refine congrArg₂ soft (funext fun t => ?_) (funext fun t => ?_)
  · have e := score m ρ c hX hWI hGQ hWQ hGK hWK b ⟨j.val / 64, by omega⟩ s ⟨t.val, lt_of_lt_of_le t.isLt (keys_le s)⟩
    refine (congrArg (· + _) e).trans ?_
    rw [table_at]
    unfold cut
    have ht := t.isLt
    have hl := keys_le s
    by_cases h : t.val ≤ s.val
    · rw [if_neg (by show ¬ s.val % 256 + 1792 < 2048 - keys s + t.val; omega), if_pos h, add_zero]
    · rw [if_pos (by show s.val % 256 + 1792 < 2048 - keys s + t.val; omega), if_neg h, EReal.add_bot]
  · exact val_at m ρ c b _ j

end Finite

end Cert.MlaIdeal.Hand

end
-- ==== Proof.Mla.lean ====
/- The claims about the latent attention. -/
module

public import proofs.«01_k».proof.Defs
public import proofs.«01_k».proof.Proof.MlaFrames
public import proofs.«01_k».proof.Proof.MlaRun
public import proofs.«01_k».proof.Proof.MlaFinal

@[expose] public section

set_option maxRecDepth 16384

noncomputable section

namespace Cert.Proof.MlaClaims

open Idealize.ShloMosaic Idealize.ShloMosaic.TcCoe Idealize.SL.Sem
open Cert.MlaRows

/-- The shapes that the precondition compares over. -/
instance facts : Cert.Pre_finite.Facts :=
  ⟨by decide, by decide, by decide, by decide, by decide, by decide⟩

/-- A number whose magnitude is below infinity is finite. -/
theorem fin_of_lt (x : EReal) (h : FloatOps.cmpf (F := Ideal) (φ := .f32) .olt (FloatOps.absf (F := Ideal) (φ := .f32) x) (Ideal.ofBits .f32 0x7F800000#32) = 1#1) : Re x := by
  have htop : Ideal.ofBits .f32 0x7F800000#32 = ⊤ := by simp [Ideal.ofBits, Ideal.ieee]
  rw [htop] at h
  induction x with
  | coe r => exact ⟨r, rfl⟩
  | bot => exact absurd h (by simp [FloatOps.cmpf, FloatOps.absf, FloatOps.scalar, Ideal.cmp])
  | top => exact absurd h (by simp [FloatOps.cmpf, FloatOps.absf, FloatOps.scalar, Ideal.cmp])

/-- The ideal reading comes to rest from every start, those with finite inputs included. -/
theorem frame_ideal_pre : Cert.quiescent_MlaIdeal_pre_finite := fun m ρ _ => Cert.MlaIdeal.Gen.frame m ρ
/-- The reference comes to rest from every start, those with finite inputs included. -/
theorem frame_ref_pre : Cert.quiescent_MlaRefIdeal_pre_finite := fun m ρ _ => MlaFrames.frame_ref m ρ trivial

/-- The `-1e30` of the causal mask is the named constant `mask`, read as `-inf`. -/
theorem preserves : Cert.preserves_Mla_MlaIdeal :=
  IdealRules.named_const.statement Cert.MlaIdeal.κ "mask" .f32 0xF149F2CA#32 ⊥ rfl

/-- At `Ideal` the kernel's result array and the reference's agree, when the inputs are finite. -/
theorem algebraic : Cert.algebraic_MlaIdeal_MlaRefIdeal_pre_finite := by
  pair_intro
  · run_from Cert.MlaIdeal.Hand.run m g
  · run_from Cert.MlaRefIdeal.Value.run m' g'
    rw [Cert.MlaIdeal.Hand.final3]
    funext j
    obtain ⟨b, s, e, rfl⟩ : ∃ (b : Fin 16) (s : Fin 2048) (e : Fin 384), j = ix3 b s e := ⟨j 0, j 1, j 2, by ext a; fin_cases a <;> rfl⟩
    rw [Cert.MlaRefIdeal.Read.val_main_v107_eq]
    obtain ⟨h0, h1, h2, h3, h4, h5, h6⟩ := hagree c
    rw [h0, h1, h2, h3, h4, h5, h6]
    obtain ⟨p0, p1, p2, p3, p4, p5⟩ := hpre c
    rw [Cert.MlaRefIdeal.Hand.v107_at]
    refine (Cert.MlaIdeal.Hand.result m g c (fun i => fin_of_lt _ (congrFun p0 i)) (fun i => fin_of_lt _ (congrFun p1 i)) (fun i => fin_of_lt _ (congrFun p2 i))
      (fun i => fin_of_lt _ (congrFun p3 i)) (fun i => fin_of_lt _ (congrFun p4 i)) (fun i => fin_of_lt _ (congrFun p5 i)) b s e).symm

end Cert.Proof.MlaClaims

end
-- ==== Proof.OutProj.lean ====
module

public import proofs.«01_k».proof.Proof.Rows
public import proofs.«01_k».proof.Proof.Gen.OutProjIdeal.Value
public import Idealize.ShloMosaic.Lib.Pipeline.ValueKit
public import Idealize.ShloMosaic.Lib.Claim
public import proofs.«01_k».proof.Defs
public import proofs.«01_k».proof.Proof.Gen.OutProj.Frame
public import Idealize.ShloMosaic.Lib.Quiescent
public import proofs.«01_k».proof.Proof.Gen.OutProjRefIdeal.Run
public import proofs.«01_k».proof.Proof.Gen.OutProjRefIdeal.Read

@[expose] public section

set_option maxRecDepth 16384

noncomputable section

namespace Cert.OutProjIdeal.Hand

open Idealize.ShloMosaic Idealize.ShloMosaic.TcCoe Idealize.SL.Sem
open Idealize.ShloMosaic.Pipeline (Dat)
open Cert.OutProjIdeal Cert.OutProjIdeal.Gen

theorem pay4_row (P0 : Vec Ideal S512x384 .bf16) (P1 : Vec Ideal S384x1024 .bf16) (P2 : Vec Ideal S512x256 .bf16)
    (P3 : Vec Ideal S256x1024 .bf16) (P4 : Vec Ideal S512x384 .bf16) (P5 : Vec Ideal S384x1024 .bf16) (P6 : Vec Ideal S512x1024 .f32)
    (w : Fin 1024 → Fin 1024 → EReal) (h1 : ∀ k l, P1 (ix2 k l) = w ⟨k.val, by omega⟩ l)
    (h3 : ∀ k l, P3 (ix2 k l) = w ⟨384 + k.val, by omega⟩ l) (h5 : ∀ k l, P5 (ix2 k l) = w ⟨640 + k.val, by omega⟩ l)
    (r : Fin 512) (l : Fin 1024) :
    k0_pay4 P0 P1 P2 P3 P4 P5 P6 (ix2 r l)
      = Rows.projSum (fun k => P6 (ix2 r k)) (fun k => P0 (ix2 r k)) (fun k => P2 (ix2 r k)) (fun k => P4 (ix2 r k)) w l
        - Rows.mean (Rows.projSum (fun k => P6 (ix2 r k)) (fun k => P0 (ix2 r k)) (fun k => P2 (ix2 r k)) (fun k => P4 (ix2 r k)) w) := by
  unfold Rows.mean Rows.projSum
  simp only [← h1, ← h3, ← h5]
  pointwise [k0_pay4]

theorem E9_row (P0 : Vec Ideal S512x384 .bf16) (P1 : Vec Ideal S384x1024 .bf16) (P2 : Vec Ideal S512x256 .bf16)
    (P3 : Vec Ideal S256x1024 .bf16) (P4 : Vec Ideal S512x384 .bf16) (P5 : Vec Ideal S384x1024 .bf16) (P6 : Vec Ideal S512x1024 .f32)
    (P7 P8 : Vec Ideal S1x1024 .f32)
    (w : Fin 1024 → Fin 1024 → EReal) (h1 : ∀ k l, P1 (ix2 k l) = w ⟨k.val, by omega⟩ l)
    (h3 : ∀ k l, P3 (ix2 k l) = w ⟨384 + k.val, by omega⟩ l) (h5 : ∀ k l, P5 (ix2 k l) = w ⟨640 + k.val, by omega⟩ l)
    (r : Fin 512) (l : Fin 1024) :
    Value.E9 P0 P1 P2 P3 P4 P5 P6 P7 P8 (ix2 r l)
      = Rows.norm (Rows.projSum (fun k => P6 (ix2 r k)) (fun k => P0 (ix2 r k)) (fun k => P2 (ix2 r k)) (fun k => P4 (ix2 r k)) w)
        (fun k => P7 (ix2 0 k)) (fun k => P8 (ix2 0 k)) l := by
  have e0 : Value.ix9_0 (ix2 r l) = ix2 r l := funext fun a => by fin_cases a <;> rfl
  have e2 : Value.ix9_2 (ix2 r l) = ix2 0 l := funext fun a => by fin_cases a <;> rfl
  have e3 : Value.ix9_3 (ix2 r l) = ix2 0 l := funext fun a => by fin_cases a <;> rfl
  unfold Rows.norm
  unfold Value.E9
  rw [e0, e2, e3]
  pointwise
  simp only [pay4_row P0 P1 P2 P3 P4 P5 P6 w h1 h3 h5]
  rfl

variable (m : (ℓ : Loc nD τ sig) → Buf (Elt Ideal) ℓ)

/-- Every window's block index at a point of the grid. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![t.val, 0] :=
  (by decide +kernel : ∀ t : Fin grid0.N, _)

/-- Row `i` of the flattened arrays, as a batch and a position. -/
def bat (i : Fin 32768) : Fin 16 := ⟨i.val / 2048, by omega⟩
def pos (i : Fin 32768) : Fin 2048 := ⟨i.val % 2048, by omega⟩

/-- The projection's result of whole arrays, row by row. -/
def G (a : FVec Ideal S16x2048x384 .bf16) (b : FVec Ideal S16x2048x256 .bf16) (d : FVec Ideal S16x2048x384 .bf16)
    (w : FVec Ideal S1024x1024 .f32) (x : FVec Ideal S16x2048x1024 .f32) (g e : FVec Ideal S1024 .f32) : FVec Ideal S32768x1024 .f32 := fun i =>
  Rows.norm (Rows.projSum (fun k => x (ix3 (bat (i 0)) (pos (i 0)) k)) (fun k => a (ix3 (bat (i 0)) (pos (i 0)) k))
    (fun k => b (ix3 (bat (i 0)) (pos (i 0)) k)) (fun k => d (ix3 (bat (i 0)) (pos (i 0)) k)) (fun k l => w (ix2 k l)))
    (fun k => g (ix1 k)) (fun k => e (ix1 k)) (i 1)

/-- The array row that row `r` of the block at point `t` is. -/
def row (t : Fin cfg0.N) (r : Fin 512) : Fin 32768 := ⟨t.val * 512 + r.val, by
  have h : t.val < 64 := lt_of_lt_of_eq t.isLt N_0
  omega⟩

theorem blk0 (c : Dev nD) (t : Fin cfg0.N) (r : Fin 512) (k : Fin 384) :
    iblk m c 0 t (ix2 r k) = (m ((c : Thread nD τ).loc main_arg0)) (ix3 (bat (row t r)) (pos (row t r)) k) := by
  blk_point [iblk, V, idx t, row, bat, pos]

theorem blk1 (c : Dev nD) (t : Fin cfg0.N) (r : Fin 512) (k : Fin 256) :
    iblk m c 1 t (ix2 r k) = (m ((c : Thread nD τ).loc main_arg1)) (ix3 (bat (row t r)) (pos (row t r)) k) := by
  blk_point [iblk, V, idx t, row, bat, pos]

theorem blk2 (c : Dev nD) (t : Fin cfg0.N) (r : Fin 512) (k : Fin 384) :
    iblk m c 2 t (ix2 r k) = (m ((c : Thread nD τ).loc main_arg2)) (ix3 (bat (row t r)) (pos (row t r)) k) := by
  blk_point [iblk, V, idx t, row, bat, pos]

theorem blk3 (c : Dev nD) (t : Fin cfg0.N) (k : Fin 384) (l : Fin 1024) :
    iblk m c 3 t (ix2 k l) = (m ((c : Thread nD τ).loc main_arg3)) (ix2 ⟨k.val, by omega⟩ l) := by
  blk_point [iblk, V, idx t]

theorem blk4 (c : Dev nD) (t : Fin cfg0.N) (k : Fin 256) (l : Fin 1024) :
    iblk m c 4 t (ix2 k l) = (m ((c : Thread nD τ).loc main_arg3)) (ix2 ⟨384 + k.val, by omega⟩ l) := by
  blk_point [iblk, V, idx t]

theorem blk5 (c : Dev nD) (t : Fin cfg0.N) (k : Fin 384) (l : Fin 1024) :
    iblk m c 5 t (ix2 k l) = (m ((c : Thread nD τ).loc main_arg3)) (ix2 ⟨640 + k.val, by omega⟩ l) := by
  blk_point [iblk, V, idx t]

theorem blk6 (c : Dev nD) (t : Fin cfg0.N) (r : Fin 512) (k : Fin 1024) :
    iblk m c 6 t (ix2 r k) = (m ((c : Thread nD τ).loc main_arg4)) (ix3 (bat (row t r)) (pos (row t r)) k) := by
  blk_point [iblk, V, idx t, row, bat, pos]

theorem blk7 (c : Dev nD) (t : Fin cfg0.N) (k : Fin 1024) :
    iblk m c 7 t (ix2 0 k) = (m ((c : Thread nD τ).loc main_arg5)) (ix1 k) := by
  blk_point [iblk, V, idx t]

theorem blk8 (c : Dev nD) (t : Fin cfg0.N) (k : Fin 1024) :
    iblk m c 8 t (ix2 0 k) = (m ((c : Thread nD τ).loc main_arg6)) (ix1 k) := by
  blk_point [iblk, V, idx t]

theorem hz : (![0, 0] : Fin 2 → Nat) = fun _ => 0 := funext fun a => by fin_cases a <;> rfl

/-- After the run the result array is `G` of the arguments. -/
theorem final (c : Dev nD) : (dats m 0 c).arrAt 9 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t hf y => ?_
  blk_simp
  rw [after0_9]
  unfold out0_9
  rw [Value.canon9_eq]
  obtain ⟨r, l, rfl⟩ : ∃ (r : Fin 512) (l : Fin 1024), y = ix2 r l := ⟨y 0, y 1, by ext a; fin_cases a <;> rfl⟩
  rw [View.ld_unit_zero hz, View.ld_unit_zero hz, View.ld_unit_zero hz, View.ld_unit_zero hz, View.ld_unit_zero hz, View.ld_unit_zero hz, View.ld_unit_zero hz, View.ld_unit_zero hz, View.ld_unit_zero hz]
  refine (E9_row _ _ _ _ _ _ _ _ _ (fun k l => (m ((c : Thread nD τ).loc main_arg3)) (ix2 k l)) (blk3 m c t) (blk4 m c t) (blk5 m c t) r l).trans ?_
  simp only [blk0, blk1, blk2, blk6, blk7, blk8]
  have e : ((cfg0.win 9).blk t).view.emb (ix2 r l) = ix2 (row t r) l := by
    blk_ext [idx t, row]
  exact (congrArg (G _ _ _ _ _ _ _) e).symm

end Cert.OutProjIdeal.Hand

namespace Cert.OutProjRefIdeal.Hand
open Idealize.ShloMosaic Cert.OutProjRefIdeal Cert.OutProjRefIdeal.Read

/-- A contraction with the three outputs side by side is three contractions. -/
theorem cat_row (a : Fin 384 → EReal) (b : Fin 256 → EReal) (d : Fin 384 → EReal) (w : Fin 1024 → EReal) :
    ∑ k : Fin 1024, (if h : k.val < 384 then a ⟨k.val, h⟩ else if h' : k.val - 384 < 256 then b ⟨k.val - 384, h'⟩
      else d ⟨k.val - 384 - 256, by omega⟩) * w k
      = (∑ k, a k * w ⟨k.val, by omega⟩ + ∑ k, b k * w ⟨384 + k.val, by omega⟩) + ∑ k, d k * w ⟨640 + k.val, by omega⟩ := by
  rw [Rows.sum_three]
  refine congrArg₂ (· + ·) (congrArg₂ (· + ·) (Finset.sum_congr rfl fun k _ => ?_) (Finset.sum_congr rfl fun k _ => ?_)) (Finset.sum_congr rfl fun k _ => ?_)
  · rw [dif_pos k.isLt]
  · have h1 : ¬ 384 + k.val < 384 := by omega
    have h2 : 384 + k.val - 384 < 256 := by omega
    have e : (⟨384 + k.val - 384, h2⟩ : Fin 256) = k := Fin.ext (by show 384 + k.val - 384 = k.val; omega)
    rw [dif_neg h1, dif_pos h2, e]
  · have h1 : ¬ 640 + k.val < 384 := by omega
    have h2 : ¬ 640 + k.val - 384 < 256 := by omega
    have e : (⟨640 + k.val - 384 - 256, by omega⟩ : Fin 384) = k := Fin.ext (by show 640 + k.val - 384 - 256 = k.val; omega)
    rw [dif_neg h1, dif_neg h2, e]

theorem ref_sum (x0 : FVec Ideal S16x2048x384 .bf16) (x1 : FVec Ideal S16x2048x256 .bf16) (x2 : FVec Ideal S16x2048x384 .bf16)
    (x3 : FVec Ideal S1024x1024 .f32) (x4 : FVec Ideal S16x2048x1024 .f32) (b : Fin 16) (s : Fin 2048) (l : Fin 1024) :
    (val_main_v5 (F := Ideal) x0 x1 x2 x3 x4 (ix3 b s l) : EReal)
      = Rows.projSum (fun k => x4 (ix3 b s k)) (fun k => x0 (ix3 b s k)) (fun k => x1 (ix3 b s k)) (fun k => x2 (ix3 b s k))
          (fun k l => x3 (ix2 k l)) l := by
  unfold Rows.projSum
  pointwise [val_main_v5, val_main_v4, val_main_v3, val_main_v2, val_main_v1, val_main_v0, val_main_cst]
  exact congrArg _ (cat_row (fun k => x0 (ix3 b s k)) (fun k => x1 (ix3 b s k)) (fun k => x2 (ix3 b s k)) (fun k => x3 (ix2 k l)))

theorem ref_row (x0 : FVec Ideal S16x2048x384 .bf16) (x1 : FVec Ideal S16x2048x256 .bf16) (x2 : FVec Ideal S16x2048x384 .bf16)
    (x3 : FVec Ideal S1024x1024 .f32) (x4 : FVec Ideal S16x2048x1024 .f32) (x5 x6 : FVec Ideal S1024 .f32) (r : Fin 32768) (l : Fin 1024) :
    (val_main_v30 (F := Ideal) x0 x1 x2 x3 x4 x5 x6 (ix2 r l) : EReal)
      = Cert.OutProjIdeal.Hand.G x0 x1 x2 x3 x4 x5 x6 (ix2 r l) := by
  unfold Cert.OutProjIdeal.Hand.G Rows.norm Rows.mean
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_cst_1, val_main_cst_2, val_main_cst_3, val_main_cst_4]
  simp only [ref_sum]
  rfl

end Cert.OutProjRefIdeal.Hand

namespace Cert.Proof.OutProjClaims

open Idealize.ShloMosaic Idealize.ShloMosaic.TcCoe Idealize.SL.Sem

theorem frame_kernel : Cert.quiescent_OutProj := fun m ρ _ => Cert.OutProj.Gen.frame m ρ
theorem frame_ideal : Cert.quiescent_OutProjIdeal := fun m ρ _ => Cert.OutProjIdeal.Gen.frame m ρ
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- At `Ideal` the kernel's result array and the reference's agree. -/
theorem algebraic : Cert.algebraic_OutProjIdeal_OutProjRefIdeal := by
  pair_intro
  · run_from Cert.OutProjIdeal.Value.run_blocks m g
  · run_from Cert.OutProjRefIdeal.Value.run m' g'
    rw [Cert.OutProjIdeal.Hand.final m c]
    funext j
    obtain ⟨r, l, rfl⟩ : ∃ (r : Fin 32768) (l : Fin 1024), j = ix2 r l := ⟨j 0, j 1, by ext a; fin_cases a <;> rfl⟩
    rw [Cert.OutProjRefIdeal.Read.val_main_v30_eq]
    obtain ⟨h0, h1, h2, h3, h4, h5, h6⟩ := hagree c
    rw [h0, h1, h2, h3, h4, h5, h6]
    exact Cert.OutProjRefIdeal.Hand.ref_row _ _ _ _ _ _ _ r l

end Cert.Proof.OutProjClaims

end
-- ==== Proof.Shared.lean ====
module

public import proofs.«01_k».proof.Proof.Rows
public import proofs.«01_k».proof.Proof.Gen.SharedIdeal.Value
public import Idealize.ShloMosaic.Lib.Pipeline.ValueKit
public import Idealize.ShloMosaic.Lib.Claim
public import proofs.«01_k».proof.Defs
public import proofs.«01_k».proof.Proof.Gen.Shared.Frame
public import Idealize.ShloMosaic.Lib.Quiescent
public import proofs.«01_k».proof.Proof.Gen.SharedRefIdeal.Run
public import proofs.«01_k».proof.Proof.Gen.SharedRefIdeal.Read

@[expose] public section

set_option maxRecDepth 16384

noncomputable section

namespace Cert.SharedIdeal.Hand

open Idealize.ShloMosaic Idealize.ShloMosaic.TcCoe Idealize.SL.Sem
open Idealize.ShloMosaic.Pipeline (Dat)
open Cert.SharedIdeal Cert.SharedIdeal.Gen

theorem pay4_row (P0 : Vec Ideal S512x1024 .f32) (P1 P2 : Vec Ideal S1024x256 .bf16) (P3 : Vec Ideal S256x1024 .bf16)
    (P4 : Vec Ideal S512x1024 .f32) (r : Fin 512) (l : Fin 1024) :
    k0_pay4 P0 P1 P2 P3 P4 (ix2 r l)
      = Rows.sharedSum (fun k => P0 (ix2 r k)) (fun k => P4 (ix2 r k)) (fun k j => P1 (ix2 k j)) (fun k j => P2 (ix2 k j)) (fun j k => P3 (ix2 j k)) l
        - Rows.mean (Rows.sharedSum (fun k => P0 (ix2 r k)) (fun k => P4 (ix2 r k)) (fun k j => P1 (ix2 k j)) (fun k j => P2 (ix2 k j)) (fun j k => P3 (ix2 j k))) := by
  unfold Rows.mean Rows.sharedSum Rows.silu
  pointwise [k0_pay4]
  simp only [zero_sub]

theorem E7_row (P0 : Vec Ideal S512x1024 .f32) (P1 P2 : Vec Ideal S1024x256 .bf16) (P3 : Vec Ideal S256x1024 .bf16)
    (P4 : Vec Ideal S512x1024 .f32) (P5 P6 : Vec Ideal S1x1024 .f32) (r : Fin 512) (l : Fin 1024) :
    Value.E7 P0 P1 P2 P3 P4 P5 P6 (ix2 r l)
      = Rows.norm (Rows.sharedSum (fun k => P0 (ix2 r k)) (fun k => P4 (ix2 r k)) (fun k j => P1 (ix2 k j)) (fun k j => P2 (ix2 k j)) (fun j k => P3 (ix2 j k)))
        (fun k => P5 (ix2 0 k)) (fun k => P6 (ix2 0 k)) l := by
  have e0 : Value.ix7_0 (ix2 r l) = ix2 r l := funext fun a => by fin_cases a <;> rfl
  have e2 : Value.ix7_2 (ix2 r l) = ix2 0 l := funext fun a => by fin_cases a <;> rfl
  have e3 : Value.ix7_3 (ix2 r l) = ix2 0 l := funext fun a => by fin_cases a <;> rfl
  unfold Rows.norm
  unfold Value.E7
  rw [e0, e2, e3]
  pointwise
  simp only [pay4_row]
  rfl

variable (m : (ℓ : Loc nD τ sig) → Buf (Elt Ideal) ℓ)

/-- Every window's block index at a point of the grid. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The shared expert's result of whole arrays, row by row. -/
def G (x s : FVec Ideal S32768x1024 .f32) (w1 w3 : FVec Ideal S1024x256 .f32) (w2 : FVec Ideal S256x1024 .f32)
    (g b : FVec Ideal S1024 .f32) : FVec Ideal S32768x1024 .f32 := fun i =>
  Rows.norm (Rows.sharedSum (fun k => x (ix2 (i 0) k)) (fun k => s (ix2 (i 0) k)) (fun k j => w1 (ix2 k j)) (fun k j => w3 (ix2 k j))
    (fun j k => w2 (ix2 j k))) (fun k => g (ix1 k)) (fun k => b (ix1 k)) (i 1)

/-- The array row that row `r` of the block at point `t` is. -/
def row (t : Fin cfg0.N) (r : Fin 512) : Fin 32768 := ⟨t.val * 512 + r.val, by
  have h : t.val < 64 := lt_of_lt_of_eq t.isLt N_0
  omega⟩

theorem blk0 (c : Dev nD) (t : Fin cfg0.N) (r : Fin 512) (k : Fin 1024) :
    iblk m c 0 t (ix2 r k) = (m ((c : Thread nD τ).loc main_arg0)) (ix2 (row t r) k) := by
  blk_point [iblk, V, idx t, row]

theorem blk1 (c : Dev nD) (t : Fin cfg0.N) (r : Fin 512) (k : Fin 1024) :
    iblk m c 1 t (ix2 r k) = (m ((c : Thread nD τ).loc main_arg1)) (ix2 (row t r) k) := by
  blk_point [iblk, V, idx t, row]

theorem blk2 (c : Dev nD) (t : Fin cfg0.N) (k : Fin 1024) (j : Fin 256) :
    iblk m c 2 t (ix2 k j) = (m ((c : Thread nD τ).loc main_arg2)) (ix2 k j) := by
  blk_point [iblk, V, idx t]

theorem blk3 (c : Dev nD) (t : Fin cfg0.N) (k : Fin 1024) (j : Fin 256) :
    iblk m c 3 t (ix2 k j) = (m ((c : Thread nD τ).loc main_arg3)) (ix2 k j) := by
  blk_point [iblk, V, idx t]

theorem blk4 (c : Dev nD) (t : Fin cfg0.N) (k : Fin 1024) (j : Fin 256) :
    iblk m c 4 t (ix2 j k) = (m ((c : Thread nD τ).loc main_arg4)) (ix2 j k) := by
  blk_point [iblk, V, idx t]

theorem blk5 (c : Dev nD) (t : Fin cfg0.N) (k : Fin 1024) :
    iblk m c 5 t (ix2 0 k) = (m ((c : Thread nD τ).loc main_arg5)) (ix1 k) := by
  blk_point [iblk, V, idx t]

theorem blk6 (c : Dev nD) (t : Fin cfg0.N) (k : Fin 1024) :
    iblk m c 6 t (ix2 0 k) = (m ((c : Thread nD τ).loc main_arg6)) (ix1 k) := by
  blk_point [iblk, V, idx t]

theorem hz : (![0, 0] : Fin 2 → Nat) = fun _ => 0 := funext fun a => by fin_cases a <;> rfl

/-- After the run the result array is `G` of the arguments. -/
theorem final (c : Dev nD) : (dats m 0 c).arrAt 7 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp
  rw [after0_7]
  unfold out0_7
  rw [Value.canon7_eq]
  obtain ⟨r, l, rfl⟩ : ∃ (r : Fin 512) (l : Fin 1024), y = ix2 r l := ⟨y 0, y 1, by ext a; fin_cases a <;> rfl⟩
  refine (E7_row _ _ _ _ _ _ _ r l).trans ?_
  rw [View.ld_unit_zero hz, View.ld_unit_zero hz, View.ld_unit_zero hz, View.ld_unit_zero hz, View.ld_unit_zero hz, View.ld_unit_zero hz, View.ld_unit_zero hz]
  simp only [blk0, blk1, blk2, blk3, blk4, blk5, blk6]
  have e : ((cfg0.win 7).blk t).view.emb (ix2 r l) = ix2 (row t r) l := by
    blk_ext [idx t, row]
  exact (congrArg (G _ _ _ _ _ _ _) e).symm

end Cert.SharedIdeal.Hand

namespace Cert.SharedRefIdeal.Hand
open Idealize.ShloMosaic Cert.SharedRefIdeal Cert.SharedRefIdeal.Read

theorem ref_row (x0 x1 : FVec Ideal S32768x1024 .f32) (x2 x3 : FVec Ideal S1024x256 .f32) (x4 : FVec Ideal S256x1024 .f32) (x5 x6 : FVec Ideal S1024 .f32) (r : Fin 32768) (l : Fin 1024) :
    (val_main_v32 (F := Ideal) x0 x1 x2 x3 x4 x5 x6 (ix2 r l) : EReal)
      = Rows.norm (Rows.sharedSum (fun k => x0 (ix2 r k)) (fun k => x1 (ix2 r k)) (fun k j => x2 (ix2 k j)) (fun k j => x3 (ix2 k j)) (fun j k => x4 (ix2 j k)))
        (fun k => x5 (ix1 k)) (fun k => x6 (ix1 k)) l := by
  unfold Rows.norm Rows.mean Rows.sharedSum Rows.silu
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_call0_v0, val_main_call0_v1, val_main_call0_v2, val_main_call0_v3, val_main_call0_v4, val_main_call0_v5, val_main_call0_cst, val_main_call0_cst_0]
  simp only [Rows.mul_recip]

end Cert.SharedRefIdeal.Hand

namespace Cert.Proof.SharedClaims

open Idealize.ShloMosaic Idealize.ShloMosaic.TcCoe Idealize.SL.Sem

theorem frame_kernel : Cert.quiescent_Shared := fun m ρ _ => Cert.Shared.Gen.frame m ρ
theorem frame_ideal : Cert.quiescent_SharedIdeal := fun m ρ _ => Cert.SharedIdeal.Gen.frame m ρ
theorem frame_ref : Cert.quiescent_SharedRefIdeal := fun m ρ _ =>
  (θ_run Cert.SharedRefIdeal.defs _ _).mono (fun r h => ⟨fun c => (h c).2,
      Idealize.ShloMosaic.sem_eq_zero_of_no_sems (by decide) r.2⟩)
    (Cert.SharedRefIdeal.Value.run (F := Ideal) m ρ)

/-- At `Ideal` the kernel's result array and the reference's agree. -/
theorem algebraic : Cert.algebraic_SharedIdeal_SharedRefIdeal := by
  pair_intro
  · run_from Cert.SharedIdeal.Value.run_blocks m g
  · run_from Cert.SharedRefIdeal.Value.run m' g'
    rw [Cert.SharedIdeal.Hand.final m c]
    funext j
    obtain ⟨r, l, rfl⟩ : ∃ (r : Fin 32768) (l : Fin 1024), j = ix2 r l := ⟨j 0, j 1, by ext a; fin_cases a <;> rfl⟩
    rw [Cert.SharedRefIdeal.Read.val_main_v32_eq]
    obtain ⟨h0, h1, h2, h3, h4, h5, h6⟩ := hagree c
    rw [h0, h1, h2, h3, h4, h5, h6]
    exact Cert.SharedRefIdeal.Hand.ref_row _ _ _ _ _ _ _ r l

end Cert.Proof.SharedClaims

end
-- ==== Proof.lean ====
/- Every claim about the five programs of the layer, put together from the modules that prove them. -/
module

public import proofs.«01_k».proof.Proof.ExpertsRun
public import proofs.«01_k».proof.Proof.ExpertsValue
public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Value
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Value
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedRefIdeal
public import proofs.«01_k».proof.Proof.Gen.SharedRefIdeal.Run
public import proofs.«01_k».proof.Proof.Gen.SharedRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.InProj
public import proofs.«01_k».proof.Proof.MlaFrames
public import proofs.«01_k».proof.Proof.Mla
public import proofs.«01_k».proof.Proof.OutProj
public import proofs.«01_k».proof.Proof.Shared
public import Idealize.ShloMosaic.Adequacy
public import Idealize.ShloMosaic.Init

@[expose] public section

noncomputable section

namespace Cert.Proof

open Idealize.ShloMosaic Idealize.SL.Sem Cert.Mla

/-- Every claim of the five programs. -/
theorem claim : Cert.Claim := ⟨Cert.Mla.Gen.facts, Cert.MlaIdeal.Gen.facts, Cert.MlaRefIdeal.Gen.facts, Cert.OutProj.Gen.facts, Cert.OutProjIdeal.Gen.facts, Cert.OutProjRefIdeal.Gen.facts, Cert.Shared.Gen.facts, Cert.SharedIdeal.Gen.facts, Cert.SharedRefIdeal.Gen.facts, Cert.InProj.Gen.facts, Cert.InProjIdeal.Gen.facts, Cert.InProjRefIdeal.Gen.facts, Cert.Experts.Gen.facts, Cert.ExpertsIdeal.Gen.facts, Cert.ExpertsRefIdeal.Gen.facts, MlaClaims.facts, ExpertsClaims.tableFacts,
  MlaFrames.frame_kernel, MlaFrames.frame_ideal, MlaClaims.frame_ideal_pre, MlaFrames.frame_ref, MlaClaims.frame_ref_pre,
  OutProjClaims.frame_kernel, OutProjClaims.frame_ideal, OutProjClaims.frame_ref,
  SharedClaims.frame_kernel, SharedClaims.frame_ideal, SharedClaims.frame_ref,
  InProjClaims.frame_kernel, InProjClaims.frame_ideal, InProjClaims.frame_ref,
  ExpertsClaims.frame_kernel, ExpertsClaims.frame_ideal, ExpertsClaims.frame_ref,
  MlaClaims.preserves, MlaClaims.algebraic, trivial, OutProjClaims.algebraic, trivial, SharedClaims.algebraic,
  trivial, InProjClaims.algebraic, ExpertsClaims.preserves, ExpertsClaims.algebraic⟩

end Cert.Proof

end
